-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def preserves_Kernel_KernelIdeal : Prop :=
  IdealRules.named_const.Statement Cert.KernelIdeal.κ "inv_count" .f32 0x35E38E39#32 ((589824⁻¹ : ℝ) : EReal)
  ∧ IdealRules.named_const.Statement Cert.KernelIdeal.κ "neg_big" .f32 0xFF61B1E6#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_v98) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "inv_ts" .f32 0x41649249#32 (((9395241 / 134217728)⁻¹ : ℝ) : EReal)
  ∧ IdealRules.named_const.Statement Cert.Kernel2Ideal.κ "inv_count" .f32 0x37A3D70A#32 ((51200⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16x3x384x384 : Shape := ⟨4, ![16, 3, 384, 384]⟩
abbrev S768x384 : Shape := ⟨2, ![768, 384]⟩
abbrev S384x384 : Shape := ⟨2, ![384, 384]⟩
abbrev S384x64 : Shape := ⟨2, ![384, 64]⟩
abbrev S512x64 : Shape := ⟨2, ![512, 64]⟩
abbrev S16x3x24x16x24x16 : Shape := ⟨6, ![16, 3, 24, 16, 24, 16]⟩
abbrev S16x24x24x3x16x16 : Shape := ⟨6, ![16, 24, 24, 3, 16, 16]⟩
abbrev S9216x768 : Shape := ⟨2, ![9216, 768]⟩
abbrev S16x64x576 : Shape := ⟨3, ![16, 64, 576]⟩
abbrev S16x1x576 : Shape := ⟨3, ![16, 1, 576]⟩
abbrev S1x1 : Shape := ⟨2, ![1, 1]⟩
abbrev S576x768 : Shape := ⟨2, ![576, 768]⟩
abbrev S1x64x576 : Shape := ⟨3, ![1, 64, 576]⟩
abbrev S1x1x576 : Shape := ⟨3, ![1, 1, 576]⟩
abbrev S576x384 : Shape := ⟨2, ![576, 384]⟩
abbrev S576x64 : Shape := ⟨2, ![576, 64]⟩
abbrev S64x576 : Shape := ⟨2, ![64, 576]⟩
abbrev S576 : Shape := ⟨1, ![576]⟩
abbrev S576x1 : Shape := ⟨2, ![576, 1]⟩
abbrev S1x576x64 : Shape := ⟨3, ![1, 576, 64]⟩
abbrev S1 : Shape := ⟨1, ![1]⟩
abbrev S1x1x1 : Shape := ⟨3, ![1, 1, 1]⟩
abbrev S512 : Shape := ⟨1, ![512]⟩
abbrev S512x1 : Shape := ⟨2, ![512, 1]⟩
abbrev S576x512 : Shape := ⟨2, ![576, 512]⟩
abbrev S1x512 : Shape := ⟨2, ![1, 512]⟩

abbrev nBuf : Space → Nat
  | .hbm => 22
  | .vmem => 23
  | .smem => 0
  | _ => 0

abbrev bufTy : (tb : Table) → Fin (tcTables nBuf tb) → BufTy
  | .hbm, ⟨0, _⟩ => ⟨S16x3x384x384, .f32⟩
  | .hbm, ⟨1, _⟩ => ⟨S16x3x384x384, .f32⟩
  | .hbm, ⟨2, _⟩ => ⟨S768x384, .f32⟩
  | .hbm, ⟨3, _⟩ => ⟨S384x384, .f32⟩
  | .hbm, ⟨4, _⟩ => ⟨S384x64, .f32⟩
  | .hbm, ⟨5, _⟩ => ⟨S384x64, .f32⟩
  | .hbm, ⟨6, _⟩ => ⟨S384x384, .f32⟩
  | .hbm, ⟨7, _⟩ => ⟨S384x64, .f32⟩
  | .hbm, ⟨8, _⟩ => ⟨S384x64, .f32⟩
  | .hbm, ⟨9, _⟩ => ⟨S512x64, .f32⟩
  | .hbm, ⟨10, _⟩ => ⟨S16x3x24x16x24x16, .f32⟩
  | .hbm, ⟨11, _⟩ => ⟨S16x24x24x3x16x16, .f32⟩
  | .hbm, ⟨12, _⟩ => ⟨S9216x768, .f32⟩
  | .hbm, ⟨13, _⟩ => ⟨S16x3x24x16x24x16, .f32⟩
  | .hbm, ⟨14, _⟩ => ⟨S16x24x24x3x16x16, .f32⟩
  | .hbm, ⟨15, _⟩ => ⟨S9216x768, .f32⟩
  | .hbm, ⟨16, _⟩ => ⟨S16x64x576, .f32⟩
  | .hbm, ⟨17, _⟩ => ⟨S16x64x576, .f32⟩
  | .hbm, ⟨18, _⟩ => ⟨S16x64x576, .f32⟩
  | .hbm, ⟨19, _⟩ => ⟨S16x1x576, .i32⟩
  | .hbm, ⟨20, _⟩ => ⟨S16x1x576, .f32⟩
  | .hbm, ⟨21, _⟩ => ⟨S1x1, .f32⟩
  | .local _ .vmem, ⟨0, _⟩ => ⟨S576x768, .f32⟩
  | .local _ .vmem, ⟨1, _⟩ => ⟨S576x768, .f32⟩
  | .local _ .vmem, ⟨2, _⟩ => ⟨S576x768, .f32⟩
  | .local _ .vmem, ⟨3, _⟩ => ⟨S576x768, .f32⟩
  | .local _ .vmem, ⟨4, _⟩ => ⟨S768x384, .f32⟩
  | .local _ .vmem, ⟨5, _⟩ => ⟨S384x384, .f32⟩
  | .local _ .vmem, ⟨6, _⟩ => ⟨S384x64, .f32⟩
  | .local _ .vmem, ⟨7, _⟩ => ⟨S384x64, .f32⟩
  | .local _ .vmem, ⟨8, _⟩ => ⟨S384x384, .f32⟩
  | .local _ .vmem, ⟨9, _⟩ => ⟨S384x64, .f32⟩
  | .local _ .vmem, ⟨10, _⟩ => ⟨S384x64, .f32⟩
  | .local _ .vmem, ⟨11, _⟩ => ⟨S512x64, .f32⟩
  | .local _ .vmem, ⟨12, _⟩ => ⟨S1x64x576, .f32⟩
  | .local _ .vmem, ⟨13, _⟩ => ⟨S1x64x576, .f32⟩
  | .local _ .vmem, ⟨14, _⟩ => ⟨S1x64x576, .f32⟩
  | .local _ .vmem, ⟨15, _⟩ => ⟨S1x64x576, .f32⟩
  | .local _ .vmem, ⟨16, _⟩ => ⟨S1x64x576, .f32⟩
  | .local _ .vmem, ⟨17, _⟩ => ⟨S1x64x576, .f32⟩
  | .local _ .vmem, ⟨18, _⟩ => ⟨S1x1x576, .i32⟩
  | .local _ .vmem, ⟨19, _⟩ => ⟨S1x1x576, .i32⟩
  | .local _ .vmem, ⟨20, _⟩ => ⟨S1x1x576, .f32⟩
  | .local _ .vmem, ⟨21, _⟩ => ⟨S1x1x576, .f32⟩
  | .local _ .vmem, ⟨22, _⟩ => ⟨S1x1, .f32⟩
  | _, _ => ⟨S16x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v123 : BitVec 1 := Scalar.cmpi .eq arg0 c0_i32
  let v124 : BitVec 32 := Scalar.extui v123
  let c0_i32_73 : BitVec 32 := 0#32
  let v125 : BitVec 1 := Scalar.cmpi .ne v124 c0_i32_73
  v125

def k0_cond2 (i : grid0.Coords) : BitVec 1 :=
  let arg0 : BitVec 32 := BitVec.ofNat 32 (i 0).val
  let c0_i32_74 : BitVec 32 := 0#32
  let v126 : BitVec 1 := Scalar.cmpi .sgt arg0 c0_i32_74
  let v127 : BitVec 32 := Scalar.extui v126
  let c0_i32_75 : BitVec 32 := 0#32
  let v128 : BitVec 1 := Scalar.cmpi .ne v127 c0_i32_75
  v128

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S576x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S576x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x64x576 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x576 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x576 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x576 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x576 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "inv_count" => some ((589824⁻¹ : ℝ) : EReal)
  | "neg_big" => some ⊥
  | _ => none
-- ==== ReferenceIdeal.lean ====
abbrev S16x3x384x384 : Shape := ⟨4, ![16, 3, 384, 384]⟩
abbrev S768x384 : Shape := ⟨2, ![768, 384]⟩
abbrev S384x384 : Shape := ⟨2, ![384, 384]⟩
abbrev S384x64 : Shape := ⟨2, ![384, 64]⟩
abbrev S512x64 : Shape := ⟨2, ![512, 64]⟩
abbrev S16x3x24x16x24x16 : Shape := ⟨6, ![16, 3, 24, 16, 24, 16]⟩
abbrev S16x24x24x3x16x16 : Shape := ⟨6, ![16, 24, 24, 3, 16, 16]⟩
abbrev S16x576x768 : Shape := ⟨3, ![16, 576, 768]⟩
abbrev S16x576x384 : Shape := ⟨3, ![16, 576, 384]⟩
abbrev S16x384x576 : Shape := ⟨3, ![16, 384, 576]⟩
abbrev S16x384x24x24 : Shape := ⟨4, ![16, 384, 24, 24]⟩
abbrev S16x24x24x384 : Shape := ⟨4, ![16, 24, 24, 384]⟩
abbrev S_ : Shape := ⟨0, ![]⟩
abbrev S16x24x24x64 : Shape := ⟨4, ![16, 24, 24, 64]⟩
abbrev S16x64x24x24 : Shape := ⟨4, ![16, 64, 24, 24]⟩
abbrev S9216x64 : Shape := ⟨2, ![9216, 64]⟩
abbrev S9216 : Shape := ⟨1, ![9216]⟩
abbrev S9216x1 : Shape := ⟨2, ![9216, 1]⟩
abbrev S512 : Shape := ⟨1, ![512]⟩
abbrev S512x1 : Shape := ⟨2, ![512, 1]⟩
abbrev S1x512 : Shape := ⟨2, ![1, 512]⟩
abbrev S9216x512 : Shape := ⟨2, ![9216, 512]⟩
abbrev S64x512 : Shape := ⟨2, ![64, 512]⟩
abbrev S9216x2 : Shape := ⟨2, ![9216, 2]⟩
abbrev S16x64x576 : Shape := ⟨3, ![16, 64, 576]⟩
abbrev S16x1x576 : Shape := ⟨3, ![16, 1, 576]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S16x3x384x384, .f32⟩
  | 1 => ⟨S16x3x384x384, .f32⟩
  | 2 => ⟨S768x384, .f32⟩
  | 3 => ⟨S384x384, .f32⟩
  | 4 => ⟨S384x64, .f32⟩
  | 5 => ⟨S384x64, .f32⟩
  | 6 => ⟨S384x384, .f32⟩
  | 7 => ⟨S384x64, .f32⟩
  | 8 => ⟨S384x64, .f32⟩
  | 9 => ⟨S512x64, .f32⟩
  | 10 => ⟨S16x3x24x16x24x16, .f32⟩
  | 11 => ⟨S16x24x24x3x16x16, .f32⟩
  | 12 => ⟨S16x576x768, .f32⟩
  | 13 => ⟨S16x576x384, .f32⟩
  | 14 => ⟨S16x384x576, .f32⟩
  | 15 => ⟨S16x384x24x24, .f32⟩
  | 16 => ⟨S16x3x24x16x24x16, .f32⟩
  | 17 => ⟨S16x24x24x3x16x16, .f32⟩
  | 18 => ⟨S16x576x768, .f32⟩
  | 19 => ⟨S16x576x384, .f32⟩
  | 20 => ⟨S16x384x576, .f32⟩
  | 21 => ⟨S16x384x24x24, .f32⟩
  | 22 => ⟨S16x24x24x384, .f32⟩
  | 23 => ⟨S16x24x24x384, .f32⟩
  | 24 => ⟨S_, .f32⟩
  | 25 => ⟨S16x24x24x384, .f32⟩
  | 26 => ⟨S16x24x24x384, .f32⟩
  | 27 => ⟨S16x24x24x64, .f32⟩
  | 28 => ⟨S16x24x24x64, .f32⟩
  | 29 => ⟨S16x24x24x64, .f32⟩
  | 30 => ⟨S16x64x24x24, .f32⟩
  | 31 => ⟨S_, .f32⟩
  | 32 => ⟨S384x384, .f32⟩
  | 33 => ⟨S384x384, .f32⟩
  | 34 => ⟨S_, .f32⟩
  | 35 => ⟨S384x384, .f32⟩
  | 36 => ⟨S384x384, .f32⟩
  | 37 => ⟨S384x384, .f32⟩
  | 38 => ⟨S_, .f32⟩
  | 39 => ⟨S384x64, .f32⟩
  | 40 => ⟨S384x64, .f32⟩
  | 41 => ⟨S_, .f32⟩
  | 42 => ⟨S384x64, .f32⟩
  | 43 => ⟨S384x64, .f32⟩
  | 44 => ⟨S384x64, .f32⟩
  | 45 => ⟨S_, .f32⟩
  | 46 => ⟨S384x64, .f32⟩
  | 47 => ⟨S384x64, .f32⟩
  | 48 => ⟨S_, .f32⟩
  | 49 => ⟨S384x64, .f32⟩
  | 50 => ⟨S384x64, .f32⟩
  | 51 => ⟨S384x64, .f32⟩
  | 52 => ⟨S16x24x24x384, .f32⟩
  | 53 => ⟨S16x24x24x384, .f32⟩
  | 54 => ⟨S_, .f32⟩
  | 55 => ⟨S16x24x24x384, .f32⟩
  | 56 => ⟨S16x24x24x384, .f32⟩
  | 57 => ⟨S16x24x24x64, .f32⟩
  | 58 => ⟨S16x24x24x64, .f32⟩
  | 59 => ⟨S16x24x24x64, .f32⟩
  | 60 => ⟨S16x64x24x24, .f32⟩
  | 61 => ⟨S16x24x24x64, .f32⟩
  | 62 => ⟨S9216x64, .f32⟩
  | 63 => ⟨S9216x64, .f32⟩
  | 64 => ⟨S_, .f32⟩
  | 65 => ⟨S9216, .f32⟩
  | 66 => ⟨S9216x1, .f32⟩
  | 67 => ⟨S9216x1, .f32⟩
  | 68 => ⟨S_, .f32⟩
  | 69 => ⟨S_, .f32⟩
  | 70 => ⟨S9216x1, .f32⟩
  | 71 => ⟨S9216x1, .f32⟩
  | 72 => ⟨S9216x64, .f32⟩
  | 73 => ⟨S9216x64, .f32⟩
  | 74 => ⟨S16x24x24x64, .f32⟩
  | 75 => ⟨S9216x64, .f32⟩
  | 76 => ⟨S9216x64, .f32⟩
  | 77 => ⟨S_, .f32⟩
  | 78 => ⟨S9216, .f32⟩
  | 79 => ⟨S9216x1, .f32⟩
  | 80 => ⟨S9216x1, .f32⟩
  | 81 => ⟨S_, .f32⟩
  | 82 => ⟨S_, .f32⟩
  | 83 => ⟨S9216x1, .f32⟩
  | 84 => ⟨S9216x1, .f32⟩
  | 85 => ⟨S9216x64, .f32⟩
  | 86 => ⟨S9216x64, .f32⟩
  | 87 => ⟨S9216x64, .f32⟩
  | 88 => ⟨S9216x64, .f32⟩
  | 89 => ⟨S_, .f32⟩
  | 90 => ⟨S_, .f32⟩
  | 91 => ⟨S_, .f32⟩
  | 92 => ⟨S_, .f32⟩
  | 93 => ⟨S512x64, .f32⟩
  | 94 => ⟨S_, .f32⟩
  | 95 => ⟨S512, .f32⟩
  | 96 => ⟨S512x1, .f32⟩
  | 97 => ⟨S512x1, .f32⟩
  | 98 => ⟨S_, .f32⟩
  | 99 => ⟨S_, .f32⟩
  | 100 => ⟨S512x1, .f32⟩
  | 101 => ⟨S512x1, .f32⟩
  | 102 => ⟨S512x64, .f32⟩
  | 103 => ⟨S512x64, .f32⟩
  | 104 => ⟨S9216x64, .f32⟩
  | 105 => ⟨S_, .f32⟩
  | 106 => ⟨S9216, .f32⟩
  | 107 => ⟨S9216x1, .f32⟩
  | 108 => ⟨S512x64, .f32⟩
  | 109 => ⟨S_, .f32⟩
  | 110 => ⟨S512, .f32⟩
  | 111 => ⟨S1x512, .f32⟩
  | 112 => ⟨S9216x512, .f32⟩
  | 113 => ⟨S9216x512, .f32⟩
  | 114 => ⟨S9216x512, .f32⟩
  | 115 => ⟨S64x512, .f32⟩
  | 116 => ⟨S9216x512, .f32⟩
  | 117 => ⟨S_, .f32⟩
  | 118 => ⟨S9216x512, .f32⟩
  | 119 => ⟨S9216x512, .f32⟩
  | 120 => ⟨S9216x512, .f32⟩
  | 121 => ⟨S9216x512, .i32⟩
  | 122 => ⟨S_, .f32⟩
  | 123 => ⟨S_, .i32⟩
  | 124 => ⟨S9216, .f32⟩
  | 125 => ⟨S9216, .i32⟩
  | 126 => ⟨S9216x512, .f32⟩
  | 127 => ⟨S9216x2, .f32⟩
  | _ => ⟨S16x3x384x384, .f32⟩

abbrev hbmTy0_1 (i : Nat) : BufTy := match i % 128 with
  | 0 => ⟨S9216x2, .i32⟩
  | 1 => ⟨S9216x1, .f32⟩
  | 2 => ⟨S9216, .f32⟩
  | 3 => ⟨S9216x1, .f32⟩
  | 4 => ⟨S9216, .f32⟩
  | 5 => ⟨S9216, .f32⟩
  | 6 => ⟨S16x24x24x64, .f32⟩
  | 7 => ⟨S16x64x24x24, .f32⟩
  | 8 => ⟨S16x64x576, .f32⟩
  | 9 => ⟨S16x64x576, .f32⟩
  | 10 => ⟨S16x64x576, .f32⟩
  | 11 => ⟨S16x1x576, .i32⟩
  | 12 => ⟨S16x1x576, .f32⟩
  | 13 => ⟨S1x1, .f32⟩
  | _ => ⟨S16x3x384x384, .f32⟩

abbrev hbmTy (i : Nat) : BufTy := match i / 128 with
  | 0 => hbmTy0_0 i
  | 1 => hbmTy0_1 i
  | _ => ⟨S16x3x384x384, .f32⟩

abbrev bufTy : (tb : Table) → Fin (tcTables nBuf tb) → BufTy
  | .hbm, ⟨i, _⟩ => hbmTy i
  | _, _ => ⟨S16x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_call2_v0 : Ref sig .tc := ⟨.hbm, 69, rfl⟩
abbrev main_call2_v1 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_call3_v0 : Ref sig .tc := ⟨.hbm, 82, rfl⟩
abbrev main_call3_v1 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_9 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_call4_v0 : Ref sig .tc := ⟨.hbm, 99, rfl⟩
abbrev main_call4_v1 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_15 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_call5_v0 : Ref sig .tc := ⟨.hbm, 121, rfl⟩
abbrev main_call5_cst : Ref sig .tc := ⟨.hbm, 122, rfl⟩
abbrev main_call5_c : Ref sig .tc := ⟨.hbm, 123, rfl⟩
abbrev main_call5_v1_0 : Ref sig .tc := ⟨.hbm, 124, rfl⟩
abbrev main_v84 : Ref sig .tc := ⟨.hbm, 125, rfl⟩
abbrev main_v85 : Ref sig .tc := ⟨.hbm, 126, rfl⟩
abbrev main_values : Ref sig .tc := ⟨.hbm, 127, rfl⟩
abbrev main_indices : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩

abbrev nD : Nat := 1
abbrev τ : Topo := Topo.v7x

variable {F : FTy → Type} [FloatOps F]
-- ==== Kernel2.lean ====
abbrev S512x64 : Shape := ⟨2, ![512, 64]⟩
abbrev S512x100x64 : Shape := ⟨3, ![512, 100, 64]⟩
abbrev S51200x64 : Shape := ⟨2, ![51200, 64]⟩
abbrev S1x1 : Shape := ⟨2, ![1, 1]⟩
abbrev S2048x64 : Shape := ⟨2, ![2048, 64]⟩
abbrev S2048 : Shape := ⟨1, ![2048]⟩
abbrev S2048x1 : Shape := ⟨2, ![2048, 1]⟩
abbrev S512 : Shape := ⟨1, ![512]⟩
abbrev S512x1 : Shape := ⟨2, ![512, 1]⟩
abbrev S2048x512 : Shape := ⟨2, ![2048, 512]⟩
abbrev S1x2048 : Shape := ⟨2, ![1, 2048]⟩
abbrev S1 : Shape := ⟨1, ![1]⟩

abbrev nBuf : Space → Nat
  | .hbm => 4
  | .vmem => 4
  | .smem => 0
  | _ => 0

abbrev bufTy : (tb : Table) → Fin (tcTables nBuf tb) → BufTy
  | .hbm, ⟨0, _⟩ => ⟨S512x64, .f32⟩
  | .hbm, ⟨1, _⟩ => ⟨S512x100x64, .f32⟩
  | .hbm, ⟨2, _⟩ => ⟨S51200x64, .f32⟩
  | .hbm, ⟨3, _⟩ => ⟨S1x1, .f32⟩
  | .local _ .vmem, ⟨0, _⟩ => ⟨S2048x64, .f32⟩
  | .local _ .vmem, ⟨1, _⟩ => ⟨S2048x64, .f32⟩
  | .local _ .vmem, ⟨2, _⟩ => ⟨S512x64, .f32⟩
  | .local _ .vmem, ⟨3, _⟩ => ⟨S1x1, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_14 : BitVec 32 := 0#32
  let v52 : BitVec 1 := Scalar.cmpi .ne v51 c0_i32_14
  v52

def k0_cond2 (i : grid0.Coords) : BitVec 1 :=
  let arg0 : BitVec 32 := BitVec.ofNat 32 (i 0).val
  let c0_i32_15 : BitVec 32 := 0#32
  let v53 : BitVec 1 := Scalar.cmpi .sgt arg0 c0_i32_15
  let v54 : BitVec 32 := Scalar.extui v53
  let c0_i32_16 : BitVec 32 := 0#32
  let v55 : BitVec 1 := Scalar.cmpi .ne v54 c0_i32_16
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Kernel2Ideal.lean ====
variable {F : FTy → Type} [FloatOps F] [Named F]
def κ : String → Option EReal := fun
  | "inv_count" => some ((51200⁻¹ : ℝ) : EReal)
  | "inv_ts" => some (((9395241 / 134217728)⁻¹ : ℝ) : EReal)
  | _ => none
-- ==== Reference2Ideal.lean ====
abbrev S512x64 : Shape := ⟨2, ![512, 64]⟩
abbrev S512x100x64 : Shape := ⟨3, ![512, 100, 64]⟩
abbrev S_ : Shape := ⟨0, ![]⟩
abbrev S512 : Shape := ⟨1, ![512]⟩
abbrev S512x1 : Shape := ⟨2, ![512, 1]⟩
abbrev S51200x64 : Shape := ⟨2, ![51200, 64]⟩
abbrev S51200 : Shape := ⟨1, ![51200]⟩
abbrev S51200x1 : Shape := ⟨2, ![51200, 1]⟩
abbrev S64x512 : Shape := ⟨2, ![64, 512]⟩
abbrev S51200x512 : Shape := ⟨2, ![51200, 512]⟩
abbrev S512x100 : Shape := ⟨2, ![512, 100]⟩
abbrev S51200x2 : Shape := ⟨2, ![51200, 2]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S512x100x64, .f32⟩
  | .hbm, ⟨2, _⟩ => ⟨S512x64, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x1, .f32⟩
  | .hbm, ⟨7, _⟩ => ⟨S_, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x64, .f32⟩
  | .hbm, ⟨12, _⟩ => ⟨S512x64, .f32⟩
  | .hbm, ⟨13, _⟩ => ⟨S51200x64, .f32⟩
  | .hbm, ⟨14, _⟩ => ⟨S51200x64, .f32⟩
  | .hbm, ⟨15, _⟩ => ⟨S_, .f32⟩
  | .hbm, ⟨16, _⟩ => ⟨S51200, .f32⟩
  | .hbm, ⟨17, _⟩ => ⟨S51200x1, .f32⟩
  | .hbm, ⟨18, _⟩ => ⟨S51200x1, .f32⟩
  | .hbm, ⟨19, _⟩ => ⟨S_, .f32⟩
  | .hbm, ⟨20, _⟩ => ⟨S_, .f32⟩
  | .hbm, ⟨21, _⟩ => ⟨S51200x1, .f32⟩
  | .hbm, ⟨22, _⟩ => ⟨S51200x1, .f32⟩
  | .hbm, ⟨23, _⟩ => ⟨S51200x64, .f32⟩
  | .hbm, ⟨24, _⟩ => ⟨S51200x64, .f32⟩
  | .hbm, ⟨25, _⟩ => ⟨S64x512, .f32⟩
  | .hbm, ⟨26, _⟩ => ⟨S51200x512, .f32⟩
  | .hbm, ⟨27, _⟩ => ⟨S_, .f32⟩
  | .hbm, ⟨28, _⟩ => ⟨S51200x512, .f32⟩
  | .hbm, ⟨29, _⟩ => ⟨S51200x512, .f32⟩
  | .hbm, ⟨30, _⟩ => ⟨S512, .i32⟩
  | .hbm, ⟨31, _⟩ => ⟨S512x100, .i32⟩
  | .hbm, ⟨32, _⟩ => ⟨S51200, .i32⟩
  | .hbm, ⟨33, _⟩ => ⟨S_, .f32⟩
  | .hbm, ⟨34, _⟩ => ⟨S51200, .f32⟩
  | .hbm, ⟨35, _⟩ => ⟨S51200x1, .f32⟩
  | .hbm, ⟨36, _⟩ => ⟨S51200, .f32⟩
  | .hbm, ⟨37, _⟩ => ⟨S51200x512, .f32⟩
  | .hbm, ⟨38, _⟩ => ⟨S51200x512, .f32⟩
  | .hbm, ⟨39, _⟩ => ⟨S51200x512, .f32⟩
  | .hbm, ⟨40, _⟩ => ⟨S_, .f32⟩
  | .hbm, ⟨41, _⟩ => ⟨S51200, .f32⟩
  | .hbm, ⟨42, _⟩ => ⟨S51200, .f32⟩
  | .hbm, ⟨43, _⟩ => ⟨S51200, .f32⟩
  | .hbm, ⟨44, _⟩ => ⟨S51200, .i32⟩
  | .hbm, ⟨45, _⟩ => ⟨S_, .i32⟩
  | .hbm, ⟨46, _⟩ => ⟨S51200, .i32⟩
  | .hbm, ⟨47, _⟩ => ⟨S51200, .i1⟩
  | .hbm, ⟨48, _⟩ => ⟨S_, .i32⟩
  | .hbm, ⟨49, _⟩ => ⟨S51200, .i32⟩
  | .hbm, ⟨50, _⟩ => ⟨S51200, .i32⟩
  | .hbm, ⟨51, _⟩ => ⟨S51200, .i32⟩
  | .hbm, ⟨52, _⟩ => ⟨S_, .i32⟩
  | .hbm, ⟨53, _⟩ => ⟨S51200, .i32⟩
  | .hbm, ⟨54, _⟩ => ⟨S51200, .i1⟩
  | .hbm, ⟨55, _⟩ => ⟨S_, .i32⟩
  | .hbm, ⟨56, _⟩ => ⟨S51200, .i32⟩
  | .hbm, ⟨57, _⟩ => ⟨S51200, .i32⟩
  | .hbm, ⟨58, _⟩ => ⟨S51200, .i32⟩
  | .hbm, ⟨59, _⟩ => ⟨S51200x1, .i32⟩
  | .hbm, ⟨60, _⟩ => ⟨S51200x1, .i32⟩
  | .hbm, ⟨61, _⟩ => ⟨S51200x2, .i32⟩
  | .hbm, ⟨62, _⟩ => ⟨S51200, .f32⟩
  | .hbm, ⟨63, _⟩ => ⟨S51200, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S1x1, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_call1_v0 : Ref sig .tc := ⟨.hbm, 20, rfl⟩
abbrev main_call1_v1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.RefOps.lean ====
/- The run of the reference program's host code: its operations in order, and each result read back as a function of
   the arguments, stage by stage (patches, head, moving average of the weights, row normalisation, distances). -/
module

public import proofs.«01_k».proof.Proof.Gen.ReferenceIdeal
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The least element of each row, as the host's reduction over (value, position) pairs finds it. -/
def fn_arg1 (x : FVec F S9216x512 .f32) (y : IVec S9216x512 32) (u : FVec F S_ .f32) (v : IVec S_ 32) : FVec F S9216 .f32 :=
  fun j => (Host.argReduce reducer_argmin_f32_i32 x y u v reducesTo_S9216x512_S9216_d1 h_S_ j).1
/-- The position of the least element of each row. -/
def fn_arg2 (x : FVec F S9216x512 .f32) (y : IVec S9216x512 32) (u : FVec F S_ .f32) (v : IVec S_ 32) : IVec S9216 32 :=
  fun j => (Host.argReduce reducer_argmin_f32_i32 x y u v reducesTo_S9216x512_S9216_d1 h_S_ j).2

/-! ## The stages -/

/-- The patches of the images, one row per patch. -/
def rTok (X : FVec F S16x3x384x384 .f32) : FVec F S16x576x768 .f32 :=
  shapeCast _ (transpose S16x24x24x3x16x16 [0, 2, 4, 1, 3, 5] (shapeCast _ X shapeCasts_S16x3x384x384_S16x3x24x16x24x16 : FVec F S16x3x24x16x24x16 .f32) transposes_S16x3x24x16x24x16_S16x24x24x3x16x16_0_2_4_1_3_5) shapeCasts_S16x24x24x3x16x16_S16x576x768
/-- The features, channels first. -/
def rP (T : FVec F S16x576x768 .f32) (Wp : FVec F S768x384 .f32) : FVec F S16x384x24x24 .f32 :=
  (shapeCast _ (transpose S16x384x576 [0, 2, 1] (Host.dotGeneral dot_S16x576x768_S768x384_S16x576x384_2_0_01_1_n_n none T Wp) transposes_S16x576x384_S16x384x576_0_2_1) shapeCasts_S16x384x576_S16x384x24x24 : FVec F S16x384x24x24 .f32)
/-- A feature map, channels last. -/
def rQ (p : FVec F S16x384x24x24 .f32) : FVec F S16x24x24x384 .f32 :=
  transpose S16x24x24x384 [0, 2, 3, 1] p transposes_S16x384x24x24_S16x24x24x384_0_2_3_1
/-- The features, channels last. -/
def rF (T : FVec F S16x576x768 .f32) (Wp : FVec F S768x384 .f32) : FVec F S16x24x24x384 .f32 := rQ (rP T Wp)
/-- The head over the features. -/
def rH (f : FVec F S16x24x24x384 .f32) (A : FVec F S384x384 .f32) (B C : FVec F S384x64 .f32) : FVec F S16x24x24x64 .f32 :=
  addf (Host.dotGeneral dot_S16x24x24x384_S384x64_S16x24x24x64_3_0_012_1_n_n none (maximumf (Host.dotGeneral dot_S16x24x24x384_S384x384_S16x24x24x384_3_0_012_1_n_n none f A) (broadcastInDim S16x24x24x384 ![] bcast_S_S16x24x24x384 (constant S_ .f32 0x00000000#32))) B) (Host.dotGeneral dot_S16x24x24x384_S384x64_S16x24x24x64_3_0_012_1_n_n none f C)
/-- A channels-first map as rows. -/
def rZ (v : FVec F S16x64x24x24 .f32) : FVec F S9216x64 .f32 :=
  shapeCast _ (transpose S16x24x24x64 [0, 2, 3, 1] v transposes_S16x64x24x24_S16x24x24x64_0_2_3_1) shapeCasts_S16x24x24x64_S9216x64
/-- The moving average of a square weight. -/
def rMix1 (e w : FVec F S384x384 .f32) : FVec F S384x384 .f32 :=
  addf (mulf (broadcastInDim S384x384 ![] bcast_S_S384x384 (constant S_ .f32 0x3F7D70A4#32)) e) (mulf (broadcastInDim S384x384 ![] bcast_S_S384x384 (constant S_ .f32 0x3C23D70A#32)) w)
/-- The moving average of an output weight. -/
def rMix2 (e w : FVec F S384x64 .f32) : FVec F S384x64 .f32 :=
  addf (mulf (broadcastInDim S384x64 ![] bcast_S_S384x64 (constant S_ .f32 0x3F7D70A4#32)) e) (mulf (broadcastInDim S384x64 ![] bcast_S_S384x64 (constant S_ .f32 0x3C23D70A#32)) w)
/-- The rows, each over its norm. -/
def rN (z : FVec F S9216x64 .f32) : FVec F S9216x64 .f32 :=
  Host.divf z (broadcastInDim S9216x64 ![0, 1] bcast_S9216x1_S9216x64_0_1 (maximumf (broadcastInDim S9216x1 ![] bcast_S_S9216x1 (id (constant S_ .f32 0x2B8CBCCC#32))) (Host.sqrt (broadcastInDim S9216x1 ![0] bcast_S9216_S9216x1_0 (Host.reduceAdd (mulf z z) (constant S_ .f32 0x00000000#32) reducesTo_S9216x64_S9216_d1 h_S_)))))
/-- The centroids, each over its norm. -/
def rC (z : FVec F S512x64 .f32) : FVec F S512x64 .f32 :=
  Host.divf z (broadcastInDim S512x64 ![0, 1] bcast_S512x1_S512x64_0_1 (maximumf (broadcastInDim S512x1 ![] bcast_S_S512x1 (id (constant S_ .f32 0x2B8CBCCC#32))) (Host.sqrt (broadcastInDim S512x1 ![0] bcast_S512_S512x1_0 (Host.reduceAdd (mulf z z) (constant S_ .f32 0x00000000#32) reducesTo_S512x64_S512_d1 h_S_)))))
/-- The squared distances between rows and centroids. -/
def rD (n : FVec F S9216x64 .f32) (cn : FVec F S512x64 .f32) : FVec F S9216x512 .f32 :=
  subf (addf (broadcastInDim S9216x512 ![0, 1] bcast_S9216x1_S9216x512_0_1 (broadcastInDim S9216x1 ![0] bcast_S9216_S9216x1_0 (Host.reduceAdd (mulf n n) (constant S_ .f32 0x00000000#32) reducesTo_S9216x64_S9216_d1 h_S_))) (broadcastInDim S9216x512 ![0, 1] bcast_S1x512_S9216x512_0_1 (broadcastInDim S1x512 ![1] bcast_S512_S1x512_1 (Host.reduceAdd (mulf cn cn) (constant S_ .f32 0x00000000#32) reducesTo_S512x64_S512_d1 h_S_))))
    (mulf (broadcastInDim S9216x512 ![] bcast_S_S9216x512 (constant S_ .f32 0x40000000#32)) (Host.dotGeneral dot_S9216x64_S64x512_S9216x512_1_0_0_1_n_n none n (transpose S64x512 [1, 0] cn transposes_S512x64_S64x512_1_0)))
/-- The nearest centroid of each row, found by the given reduction. -/
def rI (f : FVec F S9216x512 .f32 → IVec S9216x512 32 → FVec F S_ .f32 → IVec S_ 32 → IVec S9216 32) (d : FVec F S9216x512 .f32) : IVec S16x1x576 32 :=
  shapeCast _ (f d (iotaInDim S9216x512 32 1) (constant S_ .f32 0x7F800000#32) (constantI S_ 32 0#32)) shapeCasts_S9216_S16x1x576
/-- The two nearest centroids' negated distances. -/
def rT (d : FVec F S9216x512 .f32) : FVec F S9216x2 .f32 :=
  (Host.topK S9216x2 1 (FloatOps.cmpfTotal .gt) (Host.negf d) sliceFits_S9216x512_S9216x2).1
/-- The gap between them. -/
def rG (t : FVec F S9216x2 .f32) : FVec F S16x1x576 .f32 :=
  shapeCast _ (subf (shapeCast _ (extractStridedSlice S9216x1 ![0, 0] t slices_S9216x2_S9216x1_0_0) shapeCasts_S9216x1_S9216 : FVec F S9216 .f32) (shapeCast _ (extractStridedSlice S9216x1 ![0, 1] t slices_S9216x2_S9216x1_0_1) shapeCasts_S9216x1_S9216)) shapeCasts_S9216_S16x1x576
/-- The mean of the squared differences. -/
def rM (a b : FVec F S9216x64 .f32) : FVec F S_ .f32 :=
  Host.divf (Host.reduceAdd (mulf (subf a b) (subf a b)) (constant S_ .f32 0x00000000#32) reducesTo_S9216x64_S_d0_1 h_S_) (constant S_ .f32 0x49100000#32)
/-- The head's result, channels first. -/
def rV (h : FVec F S16x24x24x64 .f32) : FVec F S16x64x24x24 .f32 :=
  transpose S16x64x24x24 [0, 3, 1, 2] h transposes_S16x24x24x64_S16x64x24x24_0_3_1_2
/-- A channels-first map with its two spatial axes as one. -/
def rO (v : FVec F S16x64x24x24 .f32) : FVec F S16x64x576 .f32 :=
  shapeCast _ v shapeCasts_S16x64x24x24_S16x64x576
/-- The rows as a channels-first map. -/
def rU (n : FVec F S9216x64 .f32) : FVec F S16x64x24x24 .f32 :=
  rV (shapeCast _ n shapeCasts_S9216x64_S16x24x24x64)

/-! ## The run -/

/-- The first features and the online head. -/
abbrev opsA : List (HloOp τ sig (Elt F)) :=
  [ reshape main_arg0 main_v0 (rfl : (.f32 : EltTy) = .f32) shapeCasts_S16x3x384x384_S16x3x24x16x24x16,
    unary main_v0 main_v1 ((transpose S16x24x24x3x16x16 [0, 2, 4, 1, 3, 5] · transposes_S16x3x24x16x24x16_S16x24x24x3x16x16_0_2_4_1_3_5) : (⟨S16x3x24x16x24x16, .f32⟩ : BufTy).Contents (Elt F) → (⟨S16x24x24x3x16x16, .f32⟩ : BufTy).Contents (Elt F)),
    reshape main_v1 main_v2 (rfl : (.f32 : EltTy) = .f32) shapeCasts_S16x24x24x3x16x16_S16x576x768,
    binary main_v2 main_arg2 main_v3 ((fun l r => Host.dotGeneral dot_S16x576x768_S768x384_S16x576x384_2_0_01_1_n_n none l r) : (⟨S16x576x768, .f32⟩ : BufTy).Contents (Elt F) → (⟨S768x384, .f32⟩ : BufTy).Contents (Elt F) → (⟨S16x576x384, .f32⟩ : BufTy).Contents (Elt F)),
    unary main_v3 main_v4 ((transpose S16x384x576 [0, 2, 1] · transposes_S16x576x384_S16x384x576_0_2_1) : (⟨S16x576x384, .f32⟩ : BufTy).Contents (Elt F) → (⟨S16x384x576, .f32⟩ : BufTy).Contents (Elt F)),
    reshape main_v4 main_v5 (rfl : (.f32 : EltTy) = .f32) shapeCasts_S16x384x576_S16x384x24x24,
    reshape main_arg1 main_v6 (rfl : (.f32 : EltTy) = .f32) shapeCasts_S16x3x384x384_S16x3x24x16x24x16,
    unary main_v6 main_v7 ((transpose S16x24x24x3x16x16 [0, 2, 4, 1, 3, 5] · transposes_S16x3x24x16x24x16_S16x24x24x3x16x16_0_2_4_1_3_5) : (⟨S16x3x24x16x24x16, .f32⟩ : BufTy).Contents (Elt F) → (⟨S16x24x24x3x16x16, .f32⟩ : BufTy).Contents (Elt F)),
    reshape main_v7 main_v8 (rfl : (.f32 : EltTy) = .f32) shapeCasts_S16x24x24x3x16x16_S16x576x768,
    binary main_v8 main_arg2 main_v9 ((fun l r => Host.dotGeneral dot_S16x576x768_S768x384_S16x576x384_2_0_01_1_n_n none l r) : (⟨S16x576x768, .f32⟩ : BufTy).Contents (Elt F) → (⟨S768x384, .f32⟩ : BufTy).Contents (Elt F) → (⟨S16x576x384, .f32⟩ : BufTy).Contents (Elt F)),
    unary main_v9 main_v10 ((transpose S16x384x576 [0, 2, 1] · transposes_S16x576x384_S16x384x576_0_2_1) : (⟨S16x576x384, .f32⟩ : BufTy).Contents (Elt F) → (⟨S16x384x576, .f32⟩ : BufTy).Contents (Elt F)),
    reshape main_v10 main_v11 (rfl : (.f32 : EltTy) = .f32) shapeCasts_S16x384x576_S16x384x24x24,
    unary main_v5 main_v12 ((transpose S16x24x24x384 [0, 2, 3, 1] · transposes_S16x384x24x24_S16x24x24x384_0_2_3_1) : (⟨S16x384x24x24, .f32⟩ : BufTy).Contents (Elt F) → (⟨S16x24x24x384, .f32⟩ : BufTy).Contents (Elt F)),
    binary main_v12 main_arg3 main_v13 ((fun l r => Host.dotGeneral dot_S16x24x24x384_S384x384_S16x24x24x384_3_0_012_1_n_n none l r) : (⟨S16x24x24x384, .f32⟩ : BufTy).Contents (Elt F) → (⟨S384x384, .f32⟩ : BufTy).Contents (Elt F) → (⟨S16x24x24x384, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x24x24x384, .f32⟩) main_call0_v0) (broadcastInDim S16x24x24x384 ![] bcast_S_S16x24x24x384),
    TRef.binary (TRef.of (T := ⟨S16x24x24x384, .f32⟩) main_v13) (TRef.of (T := ⟨S16x24x24x384, .f32⟩) main_call0_v0) (TRef.of (T := ⟨S16x24x24x384, .f32⟩) main_v14) maximumf,
    binary main_v14 main_arg4 main_v15 ((fun l r => Host.dotGeneral dot_S16x24x24x384_S384x64_S16x24x24x64_3_0_012_1_n_n none l r) : (⟨S16x24x24x384, .f32⟩ : BufTy).Contents (Elt F) → (⟨S384x64, .f32⟩ : BufTy).Contents (Elt F) → (⟨S16x24x24x64, .f32⟩ : BufTy).Contents (Elt F)),
    binary main_v12 main_arg5 main_v16 ((fun l r => Host.dotGeneral dot_S16x24x24x384_S384x64_S16x24x24x64_3_0_012_1_n_n none l r) : (⟨S16x24x24x384, .f32⟩ : BufTy).Contents (Elt F) → (⟨S384x64, .f32⟩ : BufTy).Contents (Elt F) → (⟨S16x24x24x64, .f32⟩ : BufTy).Contents (Elt F)),
    binary main_v15 main_v16 main_v17 (addf : (⟨S16x24x24x64, .f32⟩ : BufTy).Contents (Elt F) → (⟨S16x24x24x64, .f32⟩ : BufTy).Contents (Elt F) → (⟨S16x24x24x64, .f32⟩ : BufTy).Contents (Elt F)),
    unary main_v17 main_v18 ((transpose S16x64x24x24 [0, 3, 1, 2] · transposes_S16x24x24x64_S16x64x24x24_0_3_1_2) : (⟨S16x24x24x64, .f32⟩ : BufTy).Contents (Elt F) → (⟨S16x64x24x24, .f32⟩ : BufTy).Contents (Elt F)) ]

/-- The averaged weights. -/
abbrev opsB : List (HloOp τ sig (Elt F)) :=
  [ nullary main_cst (constant S_ .f32 0x3F7D70A4#32),
    unary main_cst main_v19 (broadcastInDim S384x384 ![] bcast_S_S384x384 : (⟨S_, .f32⟩ : BufTy).Contents (Elt F) → (⟨S384x384, .f32⟩ : BufTy).Contents (Elt F)),
    binary main_v19 main_arg6 main_v20 (mulf : (⟨S384x384, .f32⟩ : BufTy).Contents (Elt F) → (⟨S384x384, .f32⟩ : BufTy).Contents (Elt F) → (⟨S384x384, .f32⟩ : BufTy).Contents (Elt F)),
    nullary main_cst_0 (constant S_ .f32 0x3C23D70A#32),
    unary main_cst_0 main_v21 (broadcastInDim S384x384 ![] bcast_S_S384x384 : (⟨S_, .f32⟩ : BufTy).Contents (Elt F) → (⟨S384x384, .f32⟩ : BufTy).Contents (Elt F)),
    binary main_v21 main_arg3 main_v22 (mulf : (⟨S384x384, .f32⟩ : BufTy).Contents (Elt F) → (⟨S384x384, .f32⟩ : BufTy).Contents (Elt F) → (⟨S384x384, .f32⟩ : BufTy).Contents (Elt F)),
    binary main_v20 main_v22 main_v23 (addf : (⟨S384x384, .f32⟩ : BufTy).Contents (Elt F) → (⟨S384x384, .f32⟩ : BufTy).Contents (Elt F) → (⟨S384x384, .f32⟩ : BufTy).Contents (Elt F)),
    nullary main_cst_1 (constant S_ .f32 0x3F7D70A4#32),
    unary main_cst_1 main_v24 (broadcastInDim S384x64 ![] bcast_S_S384x64 : (⟨S_, .f32⟩ : BufTy).Contents (Elt F) → (⟨S384x64, .f32⟩ : BufTy).Contents (Elt F)),
    binary main_v24 main_arg7 main_v25 (mulf : (⟨S384x64, .f32⟩ : BufTy).Contents (Elt F) → (⟨S384x64, .f32⟩ : BufTy).Contents (Elt F) → (⟨S384x64, .f32⟩ : BufTy).Contents (Elt F)),
    nullary main_cst_2 (constant S_ .f32 0x3C23D70A#32),
    unary main_cst_2 main_v26 (broadcastInDim S384x64 ![] bcast_S_S384x64 : (⟨S_, .f32⟩ : BufTy).Contents (Elt F) → (⟨S384x64, .f32⟩ : BufTy).Contents (Elt F)),
    binary main_v26 main_arg4 main_v27 (mulf : (⟨S384x64, .f32⟩ : BufTy).Contents (Elt F) → (⟨S384x64, .f32⟩ : BufTy).Contents (Elt F) → (⟨S384x64, .f32⟩ : BufTy).Contents (Elt F)),
    binary main_v25 main_v27 main_v28 (addf : (⟨S384x64, .f32⟩ : BufTy).Contents (Elt F) → (⟨S384x64, .f32⟩ : BufTy).Contents (Elt F) → (⟨S384x64, .f32⟩ : BufTy).Contents (Elt F)),
    nullary main_cst_3 (constant S_ .f32 0x3F7D70A4#32),
    unary main_cst_3 main_v29 (broadcastInDim S384x64 ![] bcast_S_S384x64 : (⟨S_, .f32⟩ : BufTy).Contents (Elt F) → (⟨S384x64, .f32⟩ : BufTy).Contents (Elt F)),
    binary main_v29 main_arg8 main_v30 (mulf : (⟨S384x64, .f32⟩ : BufTy).Contents (Elt F) → (⟨S384x64, .f32⟩ : BufTy).Contents (Elt F) → (⟨S384x64, .f32⟩ : BufTy).Contents (Elt F)),
    nullary main_cst_4 (constant S_ .f32 0x3C23D70A#32),
    unary main_cst_4 main_v31 (broadcastInDim S384x64 ![] bcast_S_S384x64 : (⟨S_, .f32⟩ : BufTy).Contents (Elt F) → (⟨S384x64, .f32⟩ : BufTy).Contents (Elt F)),
    binary main_v31 main_arg5 main_v32 (mulf : (⟨S384x64, .f32⟩ : BufTy).Contents (Elt F) → (⟨S384x64, .f32⟩ : BufTy).Contents (Elt F) → (⟨S384x64, .f32⟩ : BufTy).Contents (Elt F)),
    binary main_v30 main_v32 main_v33 (addf : (⟨S384x64, .f32⟩ : BufTy).Contents (Elt F) → (⟨S384x64, .f32⟩ : BufTy).Contents (Elt F) → (⟨S384x64, .f32⟩ : BufTy).Contents (Elt F)) ]

/-- The averaged head. -/
abbrev opsC : List (HloOp τ sig (Elt F)) :=
  [ unary main_v11 main_v34 ((transpose S16x24x24x384 [0, 2, 3, 1] · transposes_S16x384x24x24_S16x24x24x384_0_2_3_1) : (⟨S16x384x24x24, .f32⟩ : BufTy).Contents (Elt F) → (⟨S16x24x24x384, .f32⟩ : BufTy).Contents (Elt F)),
    binary main_v34 main_v23 main_v35 ((fun l r => Host.dotGeneral dot_S16x24x24x384_S384x384_S16x24x24x384_3_0_012_1_n_n none l r) : (⟨S16x24x24x384, .f32⟩ : BufTy).Contents (Elt F) → (⟨S384x384, .f32⟩ : BufTy).Contents (Elt F) → (⟨S16x24x24x384, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16x24x24x384, .f32⟩) main_call1_v0) (broadcastInDim S16x24x24x384 ![] bcast_S_S16x24x24x384),
    TRef.binary (TRef.of (T := ⟨S16x24x24x384, .f32⟩) main_v35) (TRef.of (T := ⟨S16x24x24x384, .f32⟩) main_call1_v0) (TRef.of (T := ⟨S16x24x24x384, .f32⟩) main_v36) maximumf,
    binary main_v36 main_v28 main_v37 ((fun l r => Host.dotGeneral dot_S16x24x24x384_S384x64_S16x24x24x64_3_0_012_1_n_n none l r) : (⟨S16x24x24x384, .f32⟩ : BufTy).Contents (Elt F) → (⟨S384x64, .f32⟩ : BufTy).Contents (Elt F) → (⟨S16x24x24x64, .f32⟩ : BufTy).Contents (Elt F)),
    binary main_v34 main_v33 main_v38 ((fun l r => Host.dotGeneral dot_S16x24x24x384_S384x64_S16x24x24x64_3_0_012_1_n_n none l r) : (⟨S16x24x24x384, .f32⟩ : BufTy).Contents (Elt F) → (⟨S384x64, .f32⟩ : BufTy).Contents (Elt F) → (⟨S16x24x24x64, .f32⟩ : BufTy).Contents (Elt F)),
    binary main_v37 main_v38 main_v39 (addf : (⟨S16x24x24x64, .f32⟩ : BufTy).Contents (Elt F) → (⟨S16x24x24x64, .f32⟩ : BufTy).Contents (Elt F) → (⟨S16x24x24x64, .f32⟩ : BufTy).Contents (Elt F)),
    unary main_v39 main_v40 ((transpose S16x64x24x24 [0, 3, 1, 2] · transposes_S16x24x24x64_S16x64x24x24_0_3_1_2) : (⟨S16x24x24x64, .f32⟩ : BufTy).Contents (Elt F) → (⟨S16x64x24x24, .f32⟩ : BufTy).Contents (Elt F)) ]

/-- The normalised rows and the mean squared difference. -/
abbrev opsD : List (HloOp τ sig (Elt F)) :=
  [ unary main_v18 main_v41 ((transpose S16x24x24x64 [0, 2, 3, 1] · transposes_S16x64x24x24_S16x24x24x64_0_2_3_1) : (⟨S16x64x24x24, .f32⟩ : BufTy).Contents (Elt F) → (⟨S16x24x24x64, .f32⟩ : BufTy).Contents (Elt F)),
    reshape main_v41 main_v42 (rfl : (.f32 : EltTy) = .f32) shapeCasts_S16x24x24x64_S9216x64,
    binary main_v42 main_v42 main_v43 (mulf : (⟨S9216x64, .f32⟩ : BufTy).Contents (Elt F) → (⟨S9216x64, .f32⟩ : BufTy).Contents (Elt F) → (⟨S9216x64, .f32⟩ : BufTy).Contents (Elt F)),
    nullary main_cst_5 (constant S_ .f32 0x00000000#32),
    binary main_v43 main_cst_5 main_v44 ((fun x v => Host.reduceAdd x v reducesTo_S9216x64_S9216_d1 h_S_) : (⟨S9216x64, .f32⟩ : BufTy).Contents (Elt F) → (⟨S_, .f32⟩ : BufTy).Contents (Elt F) → (⟨S9216, .f32⟩ : BufTy).Contents (Elt F)),
    unary main_v44 main_v45 (broadcastInDim S9216x1 ![0] bcast_S9216_S9216x1_0 : (⟨S9216, .f32⟩ : BufTy).Contents (Elt F) → (⟨S9216x1, .f32⟩ : BufTy).Contents (Elt F)),
    unary main_v45 main_v46 (Host.sqrt : (⟨S9216x1, .f32⟩ : BufTy).Contents (Elt F) → (⟨S9216x1, .f32⟩ : BufTy).Contents (Elt F)),
    nullary main_cst_6 (constant S_ .f32 0x2B8CBCCC#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S9216x1, .f32⟩) main_call2_v1) (broadcastInDim S9216x1 ![] bcast_S_S9216x1),
    TRef.binary (TRef.of (T := ⟨S9216x1, .f32⟩) main_call2_v1) (TRef.of (T := ⟨S9216x1, .f32⟩) main_v46) (TRef.of (T := ⟨S9216x1, .f32⟩) main_v47) maximumf,
    unary main_v47 main_v48 (broadcastInDim S9216x64 ![0, 1] bcast_S9216x1_S9216x64_0_1 : (⟨S9216x1, .f32⟩ : BufTy).Contents (Elt F) → (⟨S9216x64, .f32⟩ : BufTy).Contents (Elt F)),
    binary main_v42 main_v48 main_v49 (Host.divf : (⟨S9216x64, .f32⟩ : BufTy).Contents (Elt F) → (⟨S9216x64, .f32⟩ : BufTy).Contents (Elt F) → (⟨S9216x64, .f32⟩ : BufTy).Contents (Elt F)),
    unary main_v40 main_v50 ((transpose S16x24x24x64 [0, 2, 3, 1] · transposes_S16x64x24x24_S16x24x24x64_0_2_3_1) : (⟨S16x64x24x24, .f32⟩ : BufTy).Contents (Elt F) → (⟨S16x24x24x64, .f32⟩ : BufTy).Contents (Elt F)),
    reshape main_v50 main_v51 (rfl : (.f32 : EltTy) = .f32) shapeCasts_S16x24x24x64_S9216x64,
    binary main_v51 main_v51 main_v52 (mulf : (⟨S9216x64, .f32⟩ : BufTy).Contents (Elt F) → (⟨S9216x64, .f32⟩ : BufTy).Contents (Elt F) → (⟨S9216x64, .f32⟩ : BufTy).Contents (Elt F)),
    nullary main_cst_7 (constant S_ .f32 0x00000000#32),
    binary main_v52 main_cst_7 main_v53 ((fun x v => Host.reduceAdd x v reducesTo_S9216x64_S9216_d1 h_S_) : (⟨S9216x64, .f32⟩ : BufTy).Contents (Elt F) → (⟨S_, .f32⟩ : BufTy).Contents (Elt F) → (⟨S9216, .f32⟩ : BufTy).Contents (Elt F)),
    unary main_v53 main_v54 (broadcastInDim S9216x1 ![0] bcast_S9216_S9216x1_0 : (⟨S9216, .f32⟩ : BufTy).Contents (Elt F) → (⟨S9216x1, .f32⟩ : BufTy).Contents (Elt F)),
    unary main_v54 main_v55 (Host.sqrt : (⟨S9216x1, .f32⟩ : BufTy).Contents (Elt F) → (⟨S9216x1, .f32⟩ : BufTy).Contents (Elt F)),
    nullary main_cst_8 (constant S_ .f32 0x2B8CBCCC#32),
    TRef.unary (TRef.of (T := ⟨S_, .f32⟩) main_cst_8) (TRef.of (T := ⟨S_, .f32⟩) main_call3_v0) id,
    TRef.unary (TRef.of (T := ⟨S_, .f32⟩) main_call3_v0) (TRef.of (T := ⟨S9216x1, .f32⟩) main_call3_v1) (broadcastInDim S9216x1 ![] bcast_S_S9216x1),
    TRef.binary (TRef.of (T := ⟨S9216x1, .f32⟩) main_call3_v1) (TRef.of (T := ⟨S9216x1, .f32⟩) main_v55) (TRef.of (T := ⟨S9216x1, .f32⟩) main_v56) maximumf,
    unary main_v56 main_v57 (broadcastInDim S9216x64 ![0, 1] bcast_S9216x1_S9216x64_0_1 : (⟨S9216x1, .f32⟩ : BufTy).Contents (Elt F) → (⟨S9216x64, .f32⟩ : BufTy).Contents (Elt F)),
    binary main_v51 main_v57 main_v58 (Host.divf : (⟨S9216x64, .f32⟩ : BufTy).Contents (Elt F) → (⟨S9216x64, .f32⟩ : BufTy).Contents (Elt F) → (⟨S9216x64, .f32⟩ : BufTy).Contents (Elt F)),
    binary main_v49 main_v58 main_v59 (subf : (⟨S9216x64, .f32⟩ : BufTy).Contents (Elt F) → (⟨S9216x64, .f32⟩ : BufTy).Contents (Elt F) → (⟨S9216x64, .f32⟩ : BufTy).Contents (Elt F)),
    binary main_v59 main_v59 main_v60 (mulf : (⟨S9216x64, .f32⟩ : BufTy).Contents (Elt F) → (⟨S9216x64, .f32⟩ : BufTy).Contents (Elt F) → (⟨S9216x64, .f32⟩ : BufTy).Contents (Elt F)),
    nullary main_cst_9 (constant S_ .f32 0x00000000#32),
    binary main_v60 main_cst_9 main_v61 ((fun x v => Host.reduceAdd x v reducesTo_S9216x64_S_d0_1 h_S_) : (⟨S9216x64, .f32⟩ : BufTy).Contents (Elt F) → (⟨S_, .f32⟩ : BufTy).Contents (Elt F) → (⟨S_, .f32⟩ : BufTy).Contents (Elt F)),
    nullary main_cst_10 (constant S_ .f32 0x49100000#32),
    binary main_v61 main_cst_10 main_v62 (Host.divf : (⟨S_, .f32⟩ : BufTy).Contents (Elt F) → (⟨S_, .f32⟩ : BufTy).Contents (Elt F) → (⟨S_, .f32⟩ : BufTy).Contents (Elt F)) ]

/-- The distances. -/
abbrev opsE : List (HloOp τ sig (Elt F)) :=
  [ binary main_arg9 main_arg9 main_v63 (mulf : (⟨S512x64, .f32⟩ : BufTy).Contents (Elt F) → (⟨S512x64, .f32⟩ : BufTy).Contents (Elt F) → (⟨S512x64, .f32⟩ : BufTy).Contents (Elt F)),
    nullary main_cst_11 (constant S_ .f32 0x00000000#32),
    binary main_v63 main_cst_11 main_v64 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v64 main_v65 (broadcastInDim S512x1 ![0] bcast_S512_S512x1_0 : (⟨S512, .f32⟩ : BufTy).Contents (Elt F) → (⟨S512x1, .f32⟩ : BufTy).Contents (Elt F)),
    unary main_v65 main_v66 (Host.sqrt : (⟨S512x1, .f32⟩ : BufTy).Contents (Elt F) → (⟨S512x1, .f32⟩ : BufTy).Contents (Elt F)),
    nullary main_cst_12 (constant S_ .f32 0x2B8CBCCC#32),
    TRef.unary (TRef.of (T := ⟨S_, .f32⟩) main_cst_12) (TRef.of (T := ⟨S_, .f32⟩) main_call4_v0) id,
    TRef.unary (TRef.of (T := ⟨S_, .f32⟩) main_call4_v0) (TRef.of (T := ⟨S512x1, .f32⟩) main_call4_v1) (broadcastInDim S512x1 ![] bcast_S_S512x1),
    TRef.binary (TRef.of (T := ⟨S512x1, .f32⟩) main_call4_v1) (TRef.of (T := ⟨S512x1, .f32⟩) main_v66) (TRef.of (T := ⟨S512x1, .f32⟩) main_v67) maximumf,
    unary main_v67 main_v68 (broadcastInDim S512x64 ![0, 1] bcast_S512x1_S512x64_0_1 : (⟨S512x1, .f32⟩ : BufTy).Contents (Elt F) → (⟨S512x64, .f32⟩ : BufTy).Contents (Elt F)),
    binary main_arg9 main_v68 main_v69 (Host.divf : (⟨S512x64, .f32⟩ : BufTy).Contents (Elt F) → (⟨S512x64, .f32⟩ : BufTy).Contents (Elt F) → (⟨S512x64, .f32⟩ : BufTy).Contents (Elt F)),
    binary main_v49 main_v49 main_v70 (mulf : (⟨S9216x64, .f32⟩ : BufTy).Contents (Elt F) → (⟨S9216x64, .f32⟩ : BufTy).Contents (Elt F) → (⟨S9216x64, .f32⟩ : BufTy).Contents (Elt F)),
    nullary main_cst_13 (constant S_ .f32 0x00000000#32),
    binary main_v70 main_cst_13 main_v71 ((fun x v => Host.reduceAdd x v reducesTo_S9216x64_S9216_d1 h_S_) : (⟨S9216x64, .f32⟩ : BufTy).Contents (Elt F) → (⟨S_, .f32⟩ : BufTy).Contents (Elt F) → (⟨S9216, .f32⟩ : BufTy).Contents (Elt F)),
    unary main_v71 main_v72 (broadcastInDim S9216x1 ![0] bcast_S9216_S9216x1_0 : (⟨S9216, .f32⟩ : BufTy).Contents (Elt F) → (⟨S9216x1, .f32⟩ : BufTy).Contents (Elt F)),
    binary main_v69 main_v69 main_v73 (mulf : (⟨S512x64, .f32⟩ : BufTy).Contents (Elt F) → (⟨S512x64, .f32⟩ : BufTy).Contents (Elt F) → (⟨S512x64, .f32⟩ : BufTy).Contents (Elt F)),
    nullary main_cst_14 (constant S_ .f32 0x00000000#32),
    binary main_v73 main_cst_14 main_v74 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v74 main_v75 (broadcastInDim S1x512 ![1] bcast_S512_S1x512_1 : (⟨S512, .f32⟩ : BufTy).Contents (Elt F) → (⟨S1x512, .f32⟩ : BufTy).Contents (Elt F)),
    unary main_v72 main_v76 (broadcastInDim S9216x512 ![0, 1] bcast_S9216x1_S9216x512_0_1 : (⟨S9216x1, .f32⟩ : BufTy).Contents (Elt F) → (⟨S9216x512, .f32⟩ : BufTy).Contents (Elt F)),
    unary main_v75 main_v77 (broadcastInDim S9216x512 ![0, 1] bcast_S1x512_S9216x512_0_1 : (⟨S1x512, .f32⟩ : BufTy).Contents (Elt F) → (⟨S9216x512, .f32⟩ : BufTy).Contents (Elt F)),
    binary main_v76 main_v77 main_v78 (addf : (⟨S9216x512, .f32⟩ : BufTy).Contents (Elt F) → (⟨S9216x512, .f32⟩ : BufTy).Contents (Elt F) → (⟨S9216x512, .f32⟩ : BufTy).Contents (Elt F)),
    unary main_v69 main_v79 ((transpose S64x512 [1, 0] · transposes_S512x64_S64x512_1_0) : (⟨S512x64, .f32⟩ : BufTy).Contents (Elt F) → (⟨S64x512, .f32⟩ : BufTy).Contents (Elt F)),
    binary main_v49 main_v79 main_v80 ((fun l r => Host.dotGeneral dot_S9216x64_S64x512_S9216x512_1_0_0_1_n_n none l r) : (⟨S9216x64, .f32⟩ : BufTy).Contents (Elt F) → (⟨S64x512, .f32⟩ : BufTy).Contents (Elt F) → (⟨S9216x512, .f32⟩ : BufTy).Contents (Elt F)),
    nullary main_cst_15 (constant S_ .f32 0x40000000#32),
    unary main_cst_15 main_v81 (broadcastInDim S9216x512 ![] bcast_S_S9216x512 : (⟨S_, .f32⟩ : BufTy).Contents (Elt F) → (⟨S9216x512, .f32⟩ : BufTy).Contents (Elt F)),
    binary main_v81 main_v80 main_v82 (mulf : (⟨S9216x512, .f32⟩ : BufTy).Contents (Elt F) → (⟨S9216x512, .f32⟩ : BufTy).Contents (Elt F) → (⟨S9216x512, .f32⟩ : BufTy).Contents (Elt F)),
    binary main_v78 main_v82 main_v83 (subf : (⟨S9216x512, .f32⟩ : BufTy).Contents (Elt F) → (⟨S9216x512, .f32⟩ : BufTy).Contents (Elt F) → (⟨S9216x512, .f32⟩ : BufTy).Contents (Elt F)) ]

/-- The nearest centroids, the gap, and the result layouts. -/
abbrev opsG (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) : List (HloOp τ sig (Elt F)) :=
  [ TRef.nullary (TRef.of (T := ⟨S9216x512, .i32⟩) main_call5_v0) (iotaInDim S9216x512 32 1),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S9216x512, .f32⟩) main_v83) (TRef.of (T := ⟨S9216x512, .i32⟩) main_call5_v0) (TRef.of (T := ⟨S_, .f32⟩) main_call5_cst) (TRef.of (T := ⟨S_, .i32⟩) main_call5_c) (TRef.of (T := ⟨S9216, .f32⟩) main_call5_v1_0) f1,
    TRef.quaternary (TRef.of (T := ⟨S9216x512, .f32⟩) main_v83) (TRef.of (T := ⟨S9216x512, .i32⟩) main_call5_v0) (TRef.of (T := ⟨S_, .f32⟩) main_call5_cst) (TRef.of (T := ⟨S_, .i32⟩) main_call5_c) (TRef.of (T := ⟨S9216, .i32⟩) main_v84) f2,
    unary main_v83 main_v85 (Host.negf : (⟨S9216x512, .f32⟩ : BufTy).Contents (Elt F) → (⟨S9216x512, .f32⟩ : BufTy).Contents (Elt F)),
    unary main_v85 main_values ((fun x => (Host.topK S9216x2 1 (FloatOps.cmpfTotal .gt) x sliceFits_S9216x512_S9216x2).1) : (⟨S9216x512, .f32⟩ : BufTy).Contents (Elt F) → (⟨S9216x2, .f32⟩ : BufTy).Contents (Elt F)),
    unary main_v85 main_indices ((fun x => (Host.topK S9216x2 1 (FloatOps.cmpfTotal .gt) x sliceFits_S9216x512_S9216x2).2) : (⟨S9216x512, .f32⟩ : BufTy).Contents (Elt F) → (⟨S9216x2, .i32⟩ : BufTy).Contents (Elt F)),
    unary main_values main_v86 ((extractStridedSlice S9216x1 ![0, 0] · slices_S9216x2_S9216x1_0_0) : (⟨S9216x2, .f32⟩ : BufTy).Contents (Elt F) → (⟨S9216x1, .f32⟩ : BufTy).Contents (Elt F)),
    reshape main_v86 main_v87 (rfl : (.f32 : EltTy) = .f32) shapeCasts_S9216x1_S9216,
    unary main_values main_v88 ((extractStridedSlice S9216x1 ![0, 1] · slices_S9216x2_S9216x1_0_1) : (⟨S9216x2, .f32⟩ : BufTy).Contents (Elt F) → (⟨S9216x1, .f32⟩ : BufTy).Contents (Elt F)),
    reshape main_v88 main_v89 (rfl : (.f32 : EltTy) = .f32) shapeCasts_S9216x1_S9216,
    binary main_v87 main_v89 main_v90 (subf : (⟨S9216, .f32⟩ : BufTy).Contents (Elt F) → (⟨S9216, .f32⟩ : BufTy).Contents (Elt F) → (⟨S9216, .f32⟩ : BufTy).Contents (Elt F)),
    reshape main_v49 main_v91 (rfl : (.f32 : EltTy) = .f32) shapeCasts_S9216x64_S16x24x24x64,
    unary main_v91 main_v92 ((transpose S16x64x24x24 [0, 3, 1, 2] · transposes_S16x24x24x64_S16x64x24x24_0_3_1_2) : (⟨S16x24x24x64, .f32⟩ : BufTy).Contents (Elt F) → (⟨S16x64x24x24, .f32⟩ : BufTy).Contents (Elt F)),
    reshape main_v92 main_v93 (rfl : (.f32 : EltTy) = .f32) shapeCasts_S16x64x24x24_S16x64x576,
    reshape main_v18 main_v94 (rfl : (.f32 : EltTy) = .f32) shapeCasts_S16x64x24x24_S16x64x576,
    reshape main_v40 main_v95 (rfl : (.f32 : EltTy) = .f32) shapeCasts_S16x64x24x24_S16x64x576,
    reshape main_v84 main_v96 (rfl : (.i32 : EltTy) = .i32) shapeCasts_S9216_S16x1x576,
    reshape main_v90 main_v97 (rfl : (.f32 : EltTy) = .f32) shapeCasts_S9216_S16x1x576,
    reshape main_v62 main_v98 (rfl : (.f32 : EltTy) = .f32) shapeCasts_S_S1x1 ]

/-- The host operations, in order. -/
abbrev ops : List (HloOp τ sig (Elt F)) :=
  [ reshape main_arg0 main_v0 (rfl : (.f32 : EltTy) = .f32) shapeCasts_S16x3x384x384_S16x3x24x16x24x16,
    unary main_v0 main_v1 ((transpose S16x24x24x3x16x16 [0, 2, 4, 1, 3, 5] · transposes_S16x3x24x16x24x16_S16x24x24x3x16x16_0_2_4_1_3_5) : (⟨S16x3x24x16x24x16, .f32⟩ : BufTy).Contents (Elt F) → (⟨S16x24x24x3x16x16, .f32⟩ : BufTy).Contents (Elt F)),
    reshape main_v1 main_v2 (rfl : (.f32 : EltTy) = .f32) shapeCasts_S16x24x24x3x16x16_S16x576x768,
    binary main_v2 main_arg2 main_v3 ((fun l r => Host.dotGeneral dot_S16x576x768_S768x384_S16x576x384_2_0_01_1_n_n none l r) : (⟨S16x576x768, .f32⟩ : BufTy).Contents (Elt F) → (⟨S768x384, .f32⟩ : BufTy).Contents (Elt F) → (⟨S16x576x384, .f32⟩ : BufTy).Contents (Elt F)),
    unary main_v3 main_v4 ((transpose S16x384x576 [0, 2, 1] · transposes_S16x576x384_S16x384x576_0_2_1) : (⟨S16x576x384, .f32⟩ : BufTy).Contents (Elt F) → (⟨S16x384x576, .f32⟩ : BufTy).Contents (Elt F)),
    reshape main_v4 main_v5 (rfl : (.f32 : EltTy) = .f32) shapeCasts_S16x384x576_S16x384x24x24,
    reshape main_arg1 main_v6 (rfl : (.f32 : EltTy) = .f32) shapeCasts_S16x3x384x384_S16x3x24x16x24x16,
    unary main_v6 main_v7 ((transpose S16x24x24x3x16x16 [0, 2, 4, 1, 3, 5] · transposes_S16x3x24x16x24x16_S16x24x24x3x16x16_0_2_4_1_3_5) : (⟨S16x3x24x16x24x16, .f32⟩ : BufTy).Contents (Elt F) → (⟨S16x24x24x3x16x16, .f32⟩ : BufTy).Contents (Elt F)),
    reshape main_v7 main_v8 (rfl : (.f32 : EltTy) = .f32) shapeCasts_S16x24x24x3x16x16_S16x576x768,
    binary main_v8 main_arg2 main_v9 ((fun l r => Host.dotGeneral dot_S16x576x768_S768x384_S16x576x384_2_0_01_1_n_n none l r) : (⟨S16x576x768, .f32⟩ : BufTy).Contents (Elt F) → (⟨S768x384, .f32⟩ : BufTy).Contents (Elt F) → (⟨S16x576x384, .f32⟩ : BufTy).Contents (Elt F)),
    unary main_v9 main_v10 ((transpose S16x384x576 [0, 2, 1] · transposes_S16x576x384_S16x384x576_0_2_1) : (⟨S16x576x384, .f32⟩ : BufTy).Contents (Elt F) → (⟨S16x384x576, .f32⟩ : BufTy).Contents (Elt F)),
    reshape main_v10 main_v11 (rfl : (.f32 : EltTy) = .f32) shapeCasts_S16x384x576_S16x384x24x24,
    unary main_v5 main_v12 ((transpose S16x24x24x384 [0, 2, 3, 1] · transposes_S16x384x24x24_S16x24x24x384_0_2_3_1) : (⟨S16x384x24x24, .f32⟩ : BufTy).Contents (Elt F) → (⟨S16x24x24x384, .f32⟩ : BufTy).Contents (Elt F)),
    binary main_v12 main_arg3 main_v13 ((fun l r => Host.dotGeneral dot_S16x24x24x384_S384x384_S16x24x24x384_3_0_012_1_n_n none l r) : (⟨S16x24x24x384, .f32⟩ : BufTy).Contents (Elt F) → (⟨S384x384, .f32⟩ : BufTy).Contents (Elt F) → (⟨S16x24x24x384, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x24x24x384, .f32⟩) main_call0_v0) (broadcastInDim S16x24x24x384 ![] bcast_S_S16x24x24x384),
    TRef.binary (TRef.of (T := ⟨S16x24x24x384, .f32⟩) main_v13) (TRef.of (T := ⟨S16x24x24x384, .f32⟩) main_call0_v0) (TRef.of (T := ⟨S16x24x24x384, .f32⟩) main_v14) maximumf,
    binary main_v14 main_arg4 main_v15 ((fun l r => Host.dotGeneral dot_S16x24x24x384_S384x64_S16x24x24x64_3_0_012_1_n_n none l r) : (⟨S16x24x24x384, .f32⟩ : BufTy).Contents (Elt F) → (⟨S384x64, .f32⟩ : BufTy).Contents (Elt F) → (⟨S16x24x24x64, .f32⟩ : BufTy).Contents (Elt F)),
    binary main_v12 main_arg5 main_v16 ((fun l r => Host.dotGeneral dot_S16x24x24x384_S384x64_S16x24x24x64_3_0_012_1_n_n none l r) : (⟨S16x24x24x384, .f32⟩ : BufTy).Contents (Elt F) → (⟨S384x64, .f32⟩ : BufTy).Contents (Elt F) → (⟨S16x24x24x64, .f32⟩ : BufTy).Contents (Elt F)),
    binary main_v15 main_v16 main_v17 (addf : (⟨S16x24x24x64, .f32⟩ : BufTy).Contents (Elt F) → (⟨S16x24x24x64, .f32⟩ : BufTy).Contents (Elt F) → (⟨S16x24x24x64, .f32⟩ : BufTy).Contents (Elt F)),
    unary main_v17 main_v18 ((transpose S16x64x24x24 [0, 3, 1, 2] · transposes_S16x24x24x64_S16x64x24x24_0_3_1_2) : (⟨S16x24x24x64, .f32⟩ : BufTy).Contents (Elt F) → (⟨S16x64x24x24, .f32⟩ : BufTy).Contents (Elt F)),
    nullary main_cst (constant S_ .f32 0x3F7D70A4#32),
    unary main_cst main_v19 (broadcastInDim S384x384 ![] bcast_S_S384x384 : (⟨S_, .f32⟩ : BufTy).Contents (Elt F) → (⟨S384x384, .f32⟩ : BufTy).Contents (Elt F)),
    binary main_v19 main_arg6 main_v20 (mulf : (⟨S384x384, .f32⟩ : BufTy).Contents (Elt F) → (⟨S384x384, .f32⟩ : BufTy).Contents (Elt F) → (⟨S384x384, .f32⟩ : BufTy).Contents (Elt F)),
    nullary main_cst_0 (constant S_ .f32 0x3C23D70A#32),
    unary main_cst_0 main_v21 (broadcastInDim S384x384 ![] bcast_S_S384x384 : (⟨S_, .f32⟩ : BufTy).Contents (Elt F) → (⟨S384x384, .f32⟩ : BufTy).Contents (Elt F)),
    binary main_v21 main_arg3 main_v22 (mulf : (⟨S384x384, .f32⟩ : BufTy).Contents (Elt F) → (⟨S384x384, .f32⟩ : BufTy).Contents (Elt F) → (⟨S384x384, .f32⟩ : BufTy).Contents (Elt F)),
    binary main_v20 main_v22 main_v23 (addf : (⟨S384x384, .f32⟩ : BufTy).Contents (Elt F) → (⟨S384x384, .f32⟩ : BufTy).Contents (Elt F) → (⟨S384x384, .f32⟩ : BufTy).Contents (Elt F)),
    nullary main_cst_1 (constant S_ .f32 0x3F7D70A4#32),
    unary main_cst_1 main_v24 (broadcastInDim S384x64 ![] bcast_S_S384x64 : (⟨S_, .f32⟩ : BufTy).Contents (Elt F) → (⟨S384x64, .f32⟩ : BufTy).Contents (Elt F)),
    binary main_v24 main_arg7 main_v25 (mulf : (⟨S384x64, .f32⟩ : BufTy).Contents (Elt F) → (⟨S384x64, .f32⟩ : BufTy).Contents (Elt F) → (⟨S384x64, .f32⟩ : BufTy).Contents (Elt F)),
    nullary main_cst_2 (constant S_ .f32 0x3C23D70A#32),
    unary main_cst_2 main_v26 (broadcastInDim S384x64 ![] bcast_S_S384x64 : (⟨S_, .f32⟩ : BufTy).Contents (Elt F) → (⟨S384x64, .f32⟩ : BufTy).Contents (Elt F)),
    binary main_v26 main_arg4 main_v27 (mulf : (⟨S384x64, .f32⟩ : BufTy).Contents (Elt F) → (⟨S384x64, .f32⟩ : BufTy).Contents (Elt F) → (⟨S384x64, .f32⟩ : BufTy).Contents (Elt F)),
    binary main_v25 main_v27 main_v28 (addf : (⟨S384x64, .f32⟩ : BufTy).Contents (Elt F) → (⟨S384x64, .f32⟩ : BufTy).Contents (Elt F) → (⟨S384x64, .f32⟩ : BufTy).Contents (Elt F)),
    nullary main_cst_3 (constant S_ .f32 0x3F7D70A4#32),
    unary main_cst_3 main_v29 (broadcastInDim S384x64 ![] bcast_S_S384x64 : (⟨S_, .f32⟩ : BufTy).Contents (Elt F) → (⟨S384x64, .f32⟩ : BufTy).Contents (Elt F)),
    binary main_v29 main_arg8 main_v30 (mulf : (⟨S384x64, .f32⟩ : BufTy).Contents (Elt F) → (⟨S384x64, .f32⟩ : BufTy).Contents (Elt F) → (⟨S384x64, .f32⟩ : BufTy).Contents (Elt F)),
    nullary main_cst_4 (constant S_ .f32 0x3C23D70A#32),
    unary main_cst_4 main_v31 (broadcastInDim S384x64 ![] bcast_S_S384x64 : (⟨S_, .f32⟩ : BufTy).Contents (Elt F) → (⟨S384x64, .f32⟩ : BufTy).Contents (Elt F)),
    binary main_v31 main_arg5 main_v32 (mulf : (⟨S384x64, .f32⟩ : BufTy).Contents (Elt F) → (⟨S384x64, .f32⟩ : BufTy).Contents (Elt F) → (⟨S384x64, .f32⟩ : BufTy).Contents (Elt F)),
    binary main_v30 main_v32 main_v33 (addf : (⟨S384x64, .f32⟩ : BufTy).Contents (Elt F) → (⟨S384x64, .f32⟩ : BufTy).Contents (Elt F) → (⟨S384x64, .f32⟩ : BufTy).Contents (Elt F)),
    unary main_v11 main_v34 ((transpose S16x24x24x384 [0, 2, 3, 1] · transposes_S16x384x24x24_S16x24x24x384_0_2_3_1) : (⟨S16x384x24x24, .f32⟩ : BufTy).Contents (Elt F) → (⟨S16x24x24x384, .f32⟩ : BufTy).Contents (Elt F)),
    binary main_v34 main_v23 main_v35 ((fun l r => Host.dotGeneral dot_S16x24x24x384_S384x384_S16x24x24x384_3_0_012_1_n_n none l r) : (⟨S16x24x24x384, .f32⟩ : BufTy).Contents (Elt F) → (⟨S384x384, .f32⟩ : BufTy).Contents (Elt F) → (⟨S16x24x24x384, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16x24x24x384, .f32⟩) main_call1_v0) (broadcastInDim S16x24x24x384 ![] bcast_S_S16x24x24x384),
    TRef.binary (TRef.of (T := ⟨S16x24x24x384, .f32⟩) main_v35) (TRef.of (T := ⟨S16x24x24x384, .f32⟩) main_call1_v0) (TRef.of (T := ⟨S16x24x24x384, .f32⟩) main_v36) maximumf,
    binary main_v36 main_v28 main_v37 ((fun l r => Host.dotGeneral dot_S16x24x24x384_S384x64_S16x24x24x64_3_0_012_1_n_n none l r) : (⟨S16x24x24x384, .f32⟩ : BufTy).Contents (Elt F) → (⟨S384x64, .f32⟩ : BufTy).Contents (Elt F) → (⟨S16x24x24x64, .f32⟩ : BufTy).Contents (Elt F)),
    binary main_v34 main_v33 main_v38 ((fun l r => Host.dotGeneral dot_S16x24x24x384_S384x64_S16x24x24x64_3_0_012_1_n_n none l r) : (⟨S16x24x24x384, .f32⟩ : BufTy).Contents (Elt F) → (⟨S384x64, .f32⟩ : BufTy).Contents (Elt F) → (⟨S16x24x24x64, .f32⟩ : BufTy).Contents (Elt F)),
    binary main_v37 main_v38 main_v39 (addf : (⟨S16x24x24x64, .f32⟩ : BufTy).Contents (Elt F) → (⟨S16x24x24x64, .f32⟩ : BufTy).Contents (Elt F) → (⟨S16x24x24x64, .f32⟩ : BufTy).Contents (Elt F)),
    unary main_v39 main_v40 ((transpose S16x64x24x24 [0, 3, 1, 2] · transposes_S16x24x24x64_S16x64x24x24_0_3_1_2) : (⟨S16x24x24x64, .f32⟩ : BufTy).Contents (Elt F) → (⟨S16x64x24x24, .f32⟩ : BufTy).Contents (Elt F)),
    unary main_v18 main_v41 ((transpose S16x24x24x64 [0, 2, 3, 1] · transposes_S16x64x24x24_S16x24x24x64_0_2_3_1) : (⟨S16x64x24x24, .f32⟩ : BufTy).Contents (Elt F) → (⟨S16x24x24x64, .f32⟩ : BufTy).Contents (Elt F)),
    reshape main_v41 main_v42 (rfl : (.f32 : EltTy) = .f32) shapeCasts_S16x24x24x64_S9216x64,
    binary main_v42 main_v42 main_v43 (mulf : (⟨S9216x64, .f32⟩ : BufTy).Contents (Elt F) → (⟨S9216x64, .f32⟩ : BufTy).Contents (Elt F) → (⟨S9216x64, .f32⟩ : BufTy).Contents (Elt F)),
    nullary main_cst_5 (constant S_ .f32 0x00000000#32),
    binary main_v43 main_cst_5 main_v44 ((fun x v => Host.reduceAdd x v reducesTo_S9216x64_S9216_d1 h_S_) : (⟨S9216x64, .f32⟩ : BufTy).Contents (Elt F) → (⟨S_, .f32⟩ : BufTy).Contents (Elt F) → (⟨S9216, .f32⟩ : BufTy).Contents (Elt F)),
    unary main_v44 main_v45 (broadcastInDim S9216x1 ![0] bcast_S9216_S9216x1_0 : (⟨S9216, .f32⟩ : BufTy).Contents (Elt F) → (⟨S9216x1, .f32⟩ : BufTy).Contents (Elt F)),
    unary main_v45 main_v46 (Host.sqrt : (⟨S9216x1, .f32⟩ : BufTy).Contents (Elt F) → (⟨S9216x1, .f32⟩ : BufTy).Contents (Elt F)),
    nullary main_cst_6 (constant S_ .f32 0x2B8CBCCC#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S9216x1, .f32⟩) main_call2_v1) (broadcastInDim S9216x1 ![] bcast_S_S9216x1),
    TRef.binary (TRef.of (T := ⟨S9216x1, .f32⟩) main_call2_v1) (TRef.of (T := ⟨S9216x1, .f32⟩) main_v46) (TRef.of (T := ⟨S9216x1, .f32⟩) main_v47) maximumf,
    unary main_v47 main_v48 (broadcastInDim S9216x64 ![0, 1] bcast_S9216x1_S9216x64_0_1 : (⟨S9216x1, .f32⟩ : BufTy).Contents (Elt F) → (⟨S9216x64, .f32⟩ : BufTy).Contents (Elt F)),
    binary main_v42 main_v48 main_v49 (Host.divf : (⟨S9216x64, .f32⟩ : BufTy).Contents (Elt F) → (⟨S9216x64, .f32⟩ : BufTy).Contents (Elt F) → (⟨S9216x64, .f32⟩ : BufTy).Contents (Elt F)),
    unary main_v40 main_v50 ((transpose S16x24x24x64 [0, 2, 3, 1] · transposes_S16x64x24x24_S16x24x24x64_0_2_3_1) : (⟨S16x64x24x24, .f32⟩ : BufTy).Contents (Elt F) → (⟨S16x24x24x64, .f32⟩ : BufTy).Contents (Elt F)),
    reshape main_v50 main_v51 (rfl : (.f32 : EltTy) = .f32) shapeCasts_S16x24x24x64_S9216x64,
    binary main_v51 main_v51 main_v52 (mulf : (⟨S9216x64, .f32⟩ : BufTy).Contents (Elt F) → (⟨S9216x64, .f32⟩ : BufTy).Contents (Elt F) → (⟨S9216x64, .f32⟩ : BufTy).Contents (Elt F)),
    nullary main_cst_7 (constant S_ .f32 0x00000000#32),
    binary main_v52 main_cst_7 main_v53 ((fun x v => Host.reduceAdd x v reducesTo_S9216x64_S9216_d1 h_S_) : (⟨S9216x64, .f32⟩ : BufTy).Contents (Elt F) → (⟨S_, .f32⟩ : BufTy).Contents (Elt F) → (⟨S9216, .f32⟩ : BufTy).Contents (Elt F)),
    unary main_v53 main_v54 (broadcastInDim S9216x1 ![0] bcast_S9216_S9216x1_0 : (⟨S9216, .f32⟩ : BufTy).Contents (Elt F) → (⟨S9216x1, .f32⟩ : BufTy).Contents (Elt F)),
    unary main_v54 main_v55 (Host.sqrt : (⟨S9216x1, .f32⟩ : BufTy).Contents (Elt F) → (⟨S9216x1, .f32⟩ : BufTy).Contents (Elt F)),
    nullary main_cst_8 (constant S_ .f32 0x2B8CBCCC#32),
    TRef.unary (TRef.of (T := ⟨S_, .f32⟩) main_cst_8) (TRef.of (T := ⟨S_, .f32⟩) main_call3_v0) id,
    TRef.unary (TRef.of (T := ⟨S_, .f32⟩) main_call3_v0) (TRef.of (T := ⟨S9216x1, .f32⟩) main_call3_v1) (broadcastInDim S9216x1 ![] bcast_S_S9216x1),
    TRef.binary (TRef.of (T := ⟨S9216x1, .f32⟩) main_call3_v1) (TRef.of (T := ⟨S9216x1, .f32⟩) main_v55) (TRef.of (T := ⟨S9216x1, .f32⟩) main_v56) maximumf,
    unary main_v56 main_v57 (broadcastInDim S9216x64 ![0, 1] bcast_S9216x1_S9216x64_0_1 : (⟨S9216x1, .f32⟩ : BufTy).Contents (Elt F) → (⟨S9216x64, .f32⟩ : BufTy).Contents (Elt F)),
    binary main_v51 main_v57 main_v58 (Host.divf : (⟨S9216x64, .f32⟩ : BufTy).Contents (Elt F) → (⟨S9216x64, .f32⟩ : BufTy).Contents (Elt F) → (⟨S9216x64, .f32⟩ : BufTy).Contents (Elt F)),
    binary main_v49 main_v58 main_v59 (subf : (⟨S9216x64, .f32⟩ : BufTy).Contents (Elt F) → (⟨S9216x64, .f32⟩ : BufTy).Contents (Elt F) → (⟨S9216x64, .f32⟩ : BufTy).Contents (Elt F)),
    binary main_v59 main_v59 main_v60 (mulf : (⟨S9216x64, .f32⟩ : BufTy).Contents (Elt F) → (⟨S9216x64, .f32⟩ : BufTy).Contents (Elt F) → (⟨S9216x64, .f32⟩ : BufTy).Contents (Elt F)),
    nullary main_cst_9 (constant S_ .f32 0x00000000#32),
    binary main_v60 main_cst_9 main_v61 ((fun x v => Host.reduceAdd x v reducesTo_S9216x64_S_d0_1 h_S_) : (⟨S9216x64, .f32⟩ : BufTy).Contents (Elt F) → (⟨S_, .f32⟩ : BufTy).Contents (Elt F) → (⟨S_, .f32⟩ : BufTy).Contents (Elt F)),
    nullary main_cst_10 (constant S_ .f32 0x49100000#32),
    binary main_v61 main_cst_10 main_v62 (Host.divf : (⟨S_, .f32⟩ : BufTy).Contents (Elt F) → (⟨S_, .f32⟩ : BufTy).Contents (Elt F) → (⟨S_, .f32⟩ : BufTy).Contents (Elt F)),
    binary main_arg9 main_arg9 main_v63 (mulf : (⟨S512x64, .f32⟩ : BufTy).Contents (Elt F) → (⟨S512x64, .f32⟩ : BufTy).Contents (Elt F) → (⟨S512x64, .f32⟩ : BufTy).Contents (Elt F)),
    nullary main_cst_11 (constant S_ .f32 0x00000000#32),
    binary main_v63 main_cst_11 main_v64 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v64 main_v65 (broadcastInDim S512x1 ![0] bcast_S512_S512x1_0 : (⟨S512, .f32⟩ : BufTy).Contents (Elt F) → (⟨S512x1, .f32⟩ : BufTy).Contents (Elt F)),
    unary main_v65 main_v66 (Host.sqrt : (⟨S512x1, .f32⟩ : BufTy).Contents (Elt F) → (⟨S512x1, .f32⟩ : BufTy).Contents (Elt F)),
    nullary main_cst_12 (constant S_ .f32 0x2B8CBCCC#32),
    TRef.unary (TRef.of (T := ⟨S_, .f32⟩) main_cst_12) (TRef.of (T := ⟨S_, .f32⟩) main_call4_v0) id,
    TRef.unary (TRef.of (T := ⟨S_, .f32⟩) main_call4_v0) (TRef.of (T := ⟨S512x1, .f32⟩) main_call4_v1) (broadcastInDim S512x1 ![] bcast_S_S512x1),
    TRef.binary (TRef.of (T := ⟨S512x1, .f32⟩) main_call4_v1) (TRef.of (T := ⟨S512x1, .f32⟩) main_v66) (TRef.of (T := ⟨S512x1, .f32⟩) main_v67) maximumf,
    unary main_v67 main_v68 (broadcastInDim S512x64 ![0, 1] bcast_S512x1_S512x64_0_1 : (⟨S512x1, .f32⟩ : BufTy).Contents (Elt F) → (⟨S512x64, .f32⟩ : BufTy).Contents (Elt F)),
    binary main_arg9 main_v68 main_v69 (Host.divf : (⟨S512x64, .f32⟩ : BufTy).Contents (Elt F) → (⟨S512x64, .f32⟩ : BufTy).Contents (Elt F) → (⟨S512x64, .f32⟩ : BufTy).Contents (Elt F)),
    binary main_v49 main_v49 main_v70 (mulf : (⟨S9216x64, .f32⟩ : BufTy).Contents (Elt F) → (⟨S9216x64, .f32⟩ : BufTy).Contents (Elt F) → (⟨S9216x64, .f32⟩ : BufTy).Contents (Elt F)),
    nullary main_cst_13 (constant S_ .f32 0x00000000#32),
    binary main_v70 main_cst_13 main_v71 ((fun x v => Host.reduceAdd x v reducesTo_S9216x64_S9216_d1 h_S_) : (⟨S9216x64, .f32⟩ : BufTy).Contents (Elt F) → (⟨S_, .f32⟩ : BufTy).Contents (Elt F) → (⟨S9216, .f32⟩ : BufTy).Contents (Elt F)),
    unary main_v71 main_v72 (broadcastInDim S9216x1 ![0] bcast_S9216_S9216x1_0 : (⟨S9216, .f32⟩ : BufTy).Contents (Elt F) → (⟨S9216x1, .f32⟩ : BufTy).Contents (Elt F)),
    binary main_v69 main_v69 main_v73 (mulf : (⟨S512x64, .f32⟩ : BufTy).Contents (Elt F) → (⟨S512x64, .f32⟩ : BufTy).Contents (Elt F) → (⟨S512x64, .f32⟩ : BufTy).Contents (Elt F)),
    nullary main_cst_14 (constant S_ .f32 0x00000000#32),
    binary main_v73 main_cst_14 main_v74 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v74 main_v75 (broadcastInDim S1x512 ![1] bcast_S512_S1x512_1 : (⟨S512, .f32⟩ : BufTy).Contents (Elt F) → (⟨S1x512, .f32⟩ : BufTy).Contents (Elt F)),
    unary main_v72 main_v76 (broadcastInDim S9216x512 ![0, 1] bcast_S9216x1_S9216x512_0_1 : (⟨S9216x1, .f32⟩ : BufTy).Contents (Elt F) → (⟨S9216x512, .f32⟩ : BufTy).Contents (Elt F)),
    unary main_v75 main_v77 (broadcastInDim S9216x512 ![0, 1] bcast_S1x512_S9216x512_0_1 : (⟨S1x512, .f32⟩ : BufTy).Contents (Elt F) → (⟨S9216x512, .f32⟩ : BufTy).Contents (Elt F)),
    binary main_v76 main_v77 main_v78 (addf : (⟨S9216x512, .f32⟩ : BufTy).Contents (Elt F) → (⟨S9216x512, .f32⟩ : BufTy).Contents (Elt F) → (⟨S9216x512, .f32⟩ : BufTy).Contents (Elt F)),
    unary main_v69 main_v79 ((transpose S64x512 [1, 0] · transposes_S512x64_S64x512_1_0) : (⟨S512x64, .f32⟩ : BufTy).Contents (Elt F) → (⟨S64x512, .f32⟩ : BufTy).Contents (Elt F)),
    binary main_v49 main_v79 main_v80 ((fun l r => Host.dotGeneral dot_S9216x64_S64x512_S9216x512_1_0_0_1_n_n none l r) : (⟨S9216x64, .f32⟩ : BufTy).Contents (Elt F) → (⟨S64x512, .f32⟩ : BufTy).Contents (Elt F) → (⟨S9216x512, .f32⟩ : BufTy).Contents (Elt F)),
    nullary main_cst_15 (constant S_ .f32 0x40000000#32),
    unary main_cst_15 main_v81 (broadcastInDim S9216x512 ![] bcast_S_S9216x512 : (⟨S_, .f32⟩ : BufTy).Contents (Elt F) → (⟨S9216x512, .f32⟩ : BufTy).Contents (Elt F)),
    binary main_v81 main_v80 main_v82 (mulf : (⟨S9216x512, .f32⟩ : BufTy).Contents (Elt F) → (⟨S9216x512, .f32⟩ : BufTy).Contents (Elt F) → (⟨S9216x512, .f32⟩ : BufTy).Contents (Elt F)),
    binary main_v78 main_v82 main_v83 (subf : (⟨S9216x512, .f32⟩ : BufTy).Contents (Elt F) → (⟨S9216x512, .f32⟩ : BufTy).Contents (Elt F) → (⟨S9216x512, .f32⟩ : BufTy).Contents (Elt F)),
    TRef.nullary (TRef.of (T := ⟨S9216x512, .i32⟩) main_call5_v0) (iotaInDim S9216x512 32 1),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S9216x512, .f32⟩) main_v83) (TRef.of (T := ⟨S9216x512, .i32⟩) main_call5_v0) (TRef.of (T := ⟨S_, .f32⟩) main_call5_cst) (TRef.of (T := ⟨S_, .i32⟩) main_call5_c) (TRef.of (T := ⟨S9216, .f32⟩) main_call5_v1_0) (fn_arg1 (F := F)),
    TRef.quaternary (TRef.of (T := ⟨S9216x512, .f32⟩) main_v83) (TRef.of (T := ⟨S9216x512, .i32⟩) main_call5_v0) (TRef.of (T := ⟨S_, .f32⟩) main_call5_cst) (TRef.of (T := ⟨S_, .i32⟩) main_call5_c) (TRef.of (T := ⟨S9216, .i32⟩) main_v84) (fn_arg2 (F := F)),
    unary main_v83 main_v85 (Host.negf : (⟨S9216x512, .f32⟩ : BufTy).Contents (Elt F) → (⟨S9216x512, .f32⟩ : BufTy).Contents (Elt F)),
    unary main_v85 main_values ((fun x => (Host.topK S9216x2 1 (FloatOps.cmpfTotal .gt) x sliceFits_S9216x512_S9216x2).1) : (⟨S9216x512, .f32⟩ : BufTy).Contents (Elt F) → (⟨S9216x2, .f32⟩ : BufTy).Contents (Elt F)),
    unary main_v85 main_indices ((fun x => (Host.topK S9216x2 1 (FloatOps.cmpfTotal .gt) x sliceFits_S9216x512_S9216x2).2) : (⟨S9216x512, .f32⟩ : BufTy).Contents (Elt F) → (⟨S9216x2, .i32⟩ : BufTy).Contents (Elt F)),
    unary main_values main_v86 ((extractStridedSlice S9216x1 ![0, 0] · slices_S9216x2_S9216x1_0_0) : (⟨S9216x2, .f32⟩ : BufTy).Contents (Elt F) → (⟨S9216x1, .f32⟩ : BufTy).Contents (Elt F)),
    reshape main_v86 main_v87 (rfl : (.f32 : EltTy) = .f32) shapeCasts_S9216x1_S9216,
    unary main_values main_v88 ((extractStridedSlice S9216x1 ![0, 1] · slices_S9216x2_S9216x1_0_1) : (⟨S9216x2, .f32⟩ : BufTy).Contents (Elt F) → (⟨S9216x1, .f32⟩ : BufTy).Contents (Elt F)),
    reshape main_v88 main_v89 (rfl : (.f32 : EltTy) = .f32) shapeCasts_S9216x1_S9216,
    binary main_v87 main_v89 main_v90 (subf : (⟨S9216, .f32⟩ : BufTy).Contents (Elt F) → (⟨S9216, .f32⟩ : BufTy).Contents (Elt F) → (⟨S9216, .f32⟩ : BufTy).Contents (Elt F)),
    reshape main_v49 main_v91 (rfl : (.f32 : EltTy) = .f32) shapeCasts_S9216x64_S16x24x24x64,
    unary main_v91 main_v92 ((transpose S16x64x24x24 [0, 3, 1, 2] · transposes_S16x24x24x64_S16x64x24x24_0_3_1_2) : (⟨S16x24x24x64, .f32⟩ : BufTy).Contents (Elt F) → (⟨S16x64x24x24, .f32⟩ : BufTy).Contents (Elt F)),
    reshape main_v92 main_v93 (rfl : (.f32 : EltTy) = .f32) shapeCasts_S16x64x24x24_S16x64x576,
    reshape main_v18 main_v94 (rfl : (.f32 : EltTy) = .f32) shapeCasts_S16x64x24x24_S16x64x576,
    reshape main_v40 main_v95 (rfl : (.f32 : EltTy) = .f32) shapeCasts_S16x64x24x24_S16x64x576,
    reshape main_v84 main_v96 (rfl : (.i32 : EltTy) = .i32) shapeCasts_S9216_S16x1x576,
    reshape main_v90 main_v97 (rfl : (.f32 : EltTy) = .f32) shapeCasts_S9216_S16x1x576,
    reshape main_v62 main_v98 (rfl : (.f32 : EltTy) = .f32) shapeCasts_S_S1x1 ]

set_option maxRecDepth 16384 in
theorem ops_eq : (ops : List (HloOp τ sig (Elt F))) = opsA ++ (opsB ++ (opsC ++ (opsD ++ (opsE ++ opsG fn_arg1 fn_arg2)))) := rfl
set_option maxRecDepth 16384 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 16384 in
theorem ops_sub : (ops : List (HloOp τ sig (Elt F))).Forall fun op => op.bufs ⊆ tcRefs τ sig :=
  ⟨reshape_bufs_sub .., unary_bufs_sub .., reshape_bufs_sub .., binary_bufs_sub .., unary_bufs_sub .., reshape_bufs_sub .., reshape_bufs_sub .., unary_bufs_sub .., reshape_bufs_sub .., binary_bufs_sub .., unary_bufs_sub .., reshape_bufs_sub .., unary_bufs_sub .., binary_bufs_sub .., nullary_bufs_sub .., unary_bufs_sub .., binary_bufs_sub .., binary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., binary_bufs_sub .., binary_bufs_sub .., binary_bufs_sub .., unary_bufs_sub .., unary_bufs_sub .., reshape_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., reshape_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., binary_bufs_sub .., binary_bufs_sub .., nullary_bufs_sub .., binary_bufs_sub .., nullary_bufs_sub .., binary_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., unary_bufs_sub .., unary_bufs_sub .., unary_bufs_sub .., reshape_bufs_sub .., unary_bufs_sub .., reshape_bufs_sub .., binary_bufs_sub .., reshape_bufs_sub .., unary_bufs_sub .., reshape_bufs_sub .., reshape_bufs_sub .., reshape_bufs_sub .., reshape_bufs_sub .., reshape_bufs_sub .., reshape_bufs_sub ..⟩
/-- The contents after two lines of operations, one after the other. -/
theorem after_two (l₁ l₂ : List (HloOp τ sig (Elt F))) (V : Valuation τ sig (Elt F)) : after (l₁ ++ l₂) V = after l₂ (after l₁ V) := by
  induction l₁ generalizing V with
  | nil => rfl
  | cons op l ih => exact ih _

end Cert.ReferenceIdeal.Hand

end
-- ==== Proof.RefReadA.lean ====
/- What each line of the reference's operations leaves in the buffers that are read later. -/
module

public import proofs.«01_k».proof.Proof.RefOps
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
theorem opsA_main_v18 (V : Valuation τ sig (Elt F)) : after opsA V (Proc.devRef .tc main_v18) = rV (rH (rF (rTok (V (Proc.devRef .tc main_arg0))) (V (Proc.devRef .tc main_arg2))) (V (Proc.devRef .tc main_arg3)) (V (Proc.devRef .tc main_arg4)) (V (Proc.devRef .tc main_arg5))) := by
  simp only [opsA, TRef.nullary, TRef.quaternary, TRef.binary, TRef.unary, TRef.toBuf, TRef.ofBuf, cast_eq]
  after_results_simp <;> rfl

set_option maxRecDepth 16384 in
set_option maxHeartbeats 8000000 in
theorem opsA_main_v11 (V : Valuation τ sig (Elt F)) : after opsA V (Proc.devRef .tc main_v11) = rP (rTok (V (Proc.devRef .tc main_arg1))) (V (Proc.devRef .tc main_arg2)) := by
  simp only [opsA, TRef.nullary, TRef.quaternary, TRef.binary, TRef.unary, TRef.toBuf, TRef.ofBuf, cast_eq]
  after_results_simp <;> rfl

set_option maxRecDepth 16384 in
set_option maxHeartbeats 8000000 in
theorem opsA_main_arg0 (V : Valuation τ sig (Elt F)) : after opsA V (Proc.devRef .tc main_arg0) = (V (Proc.devRef .tc main_arg0)) := by
  simp only [opsA, TRef.nullary, TRef.quaternary, TRef.binary, TRef.unary, TRef.toBuf, TRef.ofBuf, cast_eq]
  after_results_simp <;> rfl

set_option maxRecDepth 16384 in
set_option maxHeartbeats 8000000 in
theorem opsA_main_arg1 (V : Valuation τ sig (Elt F)) : after opsA V (Proc.devRef .tc main_arg1) = (V (Proc.devRef .tc main_arg1)) := by
  simp only [opsA, TRef.nullary, TRef.quaternary, TRef.binary, TRef.unary, TRef.toBuf, TRef.ofBuf, cast_eq]
  after_results_simp <;> rfl

set_option maxRecDepth 16384 in
set_option maxHeartbeats 8000000 in
theorem opsA_main_arg2 (V : Valuation τ sig (Elt F)) : after opsA V (Proc.devRef .tc main_arg2) = (V (Proc.devRef .tc main_arg2)) := by
  simp only [opsA, TRef.nullary, TRef.quaternary, TRef.binary, TRef.unary, TRef.toBuf, TRef.ofBuf, cast_eq]
  after_results_simp <;> rfl

set_option maxRecDepth 16384 in
set_option maxHeartbeats 8000000 in
theorem opsA_main_arg3 (V : Valuation τ sig (Elt F)) : after opsA V (Proc.devRef .tc main_arg3) = (V (Proc.devRef .tc main_arg3)) := by
  simp only [opsA, TRef.nullary, TRef.quaternary, TRef.binary, TRef.unary, TRef.toBuf, TRef.ofBuf, cast_eq]
  after_results_simp <;> rfl

set_option maxRecDepth 16384 in
set_option maxHeartbeats 8000000 in
theorem opsA_main_arg4 (V : Valuation τ sig (Elt F)) : after opsA V (Proc.devRef .tc main_arg4) = (V (Proc.devRef .tc main_arg4)) := by
  simp only [opsA, TRef.nullary, TRef.quaternary, TRef.binary, TRef.unary, TRef.toBuf, TRef.ofBuf, cast_eq]
  after_results_simp <;> rfl

set_option maxRecDepth 16384 in
set_option maxHeartbeats 8000000 in
theorem opsA_main_arg5 (V : Valuation τ sig (Elt F)) : after opsA V (Proc.devRef .tc main_arg5) = (V (Proc.devRef .tc main_arg5)) := by
  simp only [opsA, TRef.nullary, TRef.quaternary, TRef.binary, TRef.unary, TRef.toBuf, TRef.ofBuf, cast_eq]
  after_results_simp <;> rfl

set_option maxRecDepth 16384 in
set_option maxHeartbeats 8000000 in
theorem opsA_main_arg6 (V : Valuation τ sig (Elt F)) : after opsA V (Proc.devRef .tc main_arg6) = (V (Proc.devRef .tc main_arg6)) := by
  simp only [opsA, TRef.nullary, TRef.quaternary, TRef.binary, TRef.unary, TRef.toBuf, TRef.ofBuf, cast_eq]
  after_results_simp <;> rfl

set_option maxRecDepth 16384 in
set_option maxHeartbeats 8000000 in
theorem opsA_main_arg7 (V : Valuation τ sig (Elt F)) : after opsA V (Proc.devRef .tc main_arg7) = (V (Proc.devRef .tc main_arg7)) := by
  simp only [opsA, TRef.nullary, TRef.quaternary, TRef.binary, TRef.unary, TRef.toBuf, TRef.ofBuf, cast_eq]
  after_results_simp <;> rfl

set_option maxRecDepth 16384 in
set_option maxHeartbeats 8000000 in
theorem opsA_main_arg8 (V : Valuation τ sig (Elt F)) : after opsA V (Proc.devRef .tc main_arg8) = (V (Proc.devRef .tc main_arg8)) := by
  simp only [opsA, TRef.nullary, TRef.quaternary, TRef.binary, TRef.unary, TRef.toBuf, TRef.ofBuf, cast_eq]
  after_results_simp <;> rfl

set_option maxRecDepth 16384 in
set_option maxHeartbeats 8000000 in
theorem opsA_main_arg9 (V : Valuation τ sig (Elt F)) : after opsA V (Proc.devRef .tc main_arg9) = (V (Proc.devRef .tc main_arg9)) := by
  simp only [opsA, TRef.nullary, TRef.quaternary, TRef.binary, TRef.unary, TRef.toBuf, TRef.ofBuf, cast_eq]
  after_results_simp <;> rfl

set_option maxRecDepth 16384 in
set_option maxHeartbeats 8000000 in
theorem opsB_main_v23 (V : Valuation τ sig (Elt F)) : after opsB V (Proc.devRef .tc main_v23) = rMix1 (V (Proc.devRef .tc main_arg6)) (V (Proc.devRef .tc main_arg3)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_v28 (V : Valuation τ sig (Elt F)) : after opsB V (Proc.devRef .tc main_v28) = rMix2 (V (Proc.devRef .tc main_arg7)) (V (Proc.devRef .tc main_arg4)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_v33 (V : Valuation τ sig (Elt F)) : after opsB V (Proc.devRef .tc main_v33) = rMix2 (V (Proc.devRef .tc main_arg8)) (V (Proc.devRef .tc main_arg5)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_v18 (V : Valuation τ sig (Elt F)) : after opsB V (Proc.devRef .tc main_v18) = (V (Proc.devRef .tc main_v18)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_v11 (V : Valuation τ sig (Elt F)) : after opsB V (Proc.devRef .tc main_v11) = (V (Proc.devRef .tc main_v11)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_arg0 (V : Valuation τ sig (Elt F)) : after opsB V (Proc.devRef .tc main_arg0) = (V (Proc.devRef .tc main_arg0)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_arg1 (V : Valuation τ sig (Elt F)) : after opsB V (Proc.devRef .tc main_arg1) = (V (Proc.devRef .tc main_arg1)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_arg2 (V : Valuation τ sig (Elt F)) : after opsB V (Proc.devRef .tc main_arg2) = (V (Proc.devRef .tc main_arg2)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_arg3 (V : Valuation τ sig (Elt F)) : after opsB V (Proc.devRef .tc main_arg3) = (V (Proc.devRef .tc main_arg3)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_arg4 (V : Valuation τ sig (Elt F)) : after opsB V (Proc.devRef .tc main_arg4) = (V (Proc.devRef .tc main_arg4)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_arg5 (V : Valuation τ sig (Elt F)) : after opsB V (Proc.devRef .tc main_arg5) = (V (Proc.devRef .tc main_arg5)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_arg6 (V : Valuation τ sig (Elt F)) : after opsB V (Proc.devRef .tc main_arg6) = (V (Proc.devRef .tc main_arg6)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_arg7 (V : Valuation τ sig (Elt F)) : after opsB V (Proc.devRef .tc main_arg7) = (V (Proc.devRef .tc main_arg7)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_arg8 (V : Valuation τ sig (Elt F)) : after opsB V (Proc.devRef .tc main_arg8) = (V (Proc.devRef .tc main_arg8)) := by
  simp only [opsB, TRef.nullary, TRef.quaternary, TRef.binary, TRef.unary, TRef.toBuf, TRef.ofBuf, cast_eq]
  after_results_simp <;> rfl

set_option maxRecDepth 16384 in
set_option maxHeartbeats 8000000 in
theorem opsB_main_arg9 (V : Valuation τ sig (Elt F)) : after opsB V (Proc.devRef .tc main_arg9) = (V (Proc.devRef .tc main_arg9)) := by
  simp only [opsB, TRef.nullary, TRef.quaternary, TRef.binary, TRef.unary, TRef.toBuf, TRef.ofBuf, cast_eq]
  after_results_simp <;> rfl

end Cert.ReferenceIdeal.Hand

end
-- ==== Proof.RefReadC.lean ====
/- What each line of the reference's operations leaves in the buffers that are read later. -/
module

public import proofs.«01_k».proof.Proof.RefOps
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
theorem opsC_main_v40 (V : Valuation τ sig (Elt F)) : after opsC V (Proc.devRef .tc main_v40) = rV (rH (rQ (V (Proc.devRef .tc main_v11))) (V (Proc.devRef .tc main_v23)) (V (Proc.devRef .tc main_v28)) (V (Proc.devRef .tc main_v33))) := by
  simp only [opsC, TRef.nullary, TRef.quaternary, TRef.binary, TRef.unary, TRef.toBuf, TRef.ofBuf, cast_eq]
  after_results_simp <;> rfl

set_option maxRecDepth 16384 in
set_option maxHeartbeats 8000000 in
theorem opsC_main_v18 (V : Valuation τ sig (Elt F)) : after opsC V (Proc.devRef .tc main_v18) = (V (Proc.devRef .tc main_v18)) := by
  simp only [opsC, TRef.nullary, TRef.quaternary, TRef.binary, TRef.unary, TRef.toBuf, TRef.ofBuf, cast_eq]
  after_results_simp <;> rfl

set_option maxRecDepth 16384 in
set_option maxHeartbeats 8000000 in
theorem opsC_main_arg0 (V : Valuation τ sig (Elt F)) : after opsC V (Proc.devRef .tc main_arg0) = (V (Proc.devRef .tc main_arg0)) := by
  simp only [opsC, TRef.nullary, TRef.quaternary, TRef.binary, TRef.unary, TRef.toBuf, TRef.ofBuf, cast_eq]
  after_results_simp <;> rfl

set_option maxRecDepth 16384 in
set_option maxHeartbeats 8000000 in
theorem opsC_main_arg1 (V : Valuation τ sig (Elt F)) : after opsC V (Proc.devRef .tc main_arg1) = (V (Proc.devRef .tc main_arg1)) := by
  simp only [opsC, TRef.nullary, TRef.quaternary, TRef.binary, TRef.unary, TRef.toBuf, TRef.ofBuf, cast_eq]
  after_results_simp <;> rfl

set_option maxRecDepth 16384 in
set_option maxHeartbeats 8000000 in
theorem opsC_main_arg2 (V : Valuation τ sig (Elt F)) : after opsC V (Proc.devRef .tc main_arg2) = (V (Proc.devRef .tc main_arg2)) := by
  simp only [opsC, TRef.nullary, TRef.quaternary, TRef.binary, TRef.unary, TRef.toBuf, TRef.ofBuf, cast_eq]
  after_results_simp <;> rfl

set_option maxRecDepth 16384 in
set_option maxHeartbeats 8000000 in
theorem opsC_main_arg3 (V : Valuation τ sig (Elt F)) : after opsC V (Proc.devRef .tc main_arg3) = (V (Proc.devRef .tc main_arg3)) := by
  simp only [opsC, TRef.nullary, TRef.quaternary, TRef.binary, TRef.unary, TRef.toBuf, TRef.ofBuf, cast_eq]
  after_results_simp <;> rfl

set_option maxRecDepth 16384 in
set_option maxHeartbeats 8000000 in
theorem opsC_main_arg4 (V : Valuation τ sig (Elt F)) : after opsC V (Proc.devRef .tc main_arg4) = (V (Proc.devRef .tc main_arg4)) := by
  simp only [opsC, TRef.nullary, TRef.quaternary, TRef.binary, TRef.unary, TRef.toBuf, TRef.ofBuf, cast_eq]
  after_results_simp <;> rfl

set_option maxRecDepth 16384 in
set_option maxHeartbeats 8000000 in
theorem opsC_main_arg5 (V : Valuation τ sig (Elt F)) : after opsC V (Proc.devRef .tc main_arg5) = (V (Proc.devRef .tc main_arg5)) := by
  simp only [opsC, TRef.nullary, TRef.quaternary, TRef.binary, TRef.unary, TRef.toBuf, TRef.ofBuf, cast_eq]
  after_results_simp <;> rfl

set_option maxRecDepth 16384 in
set_option maxHeartbeats 8000000 in
theorem opsC_main_arg6 (V : Valuation τ sig (Elt F)) : after opsC V (Proc.devRef .tc main_arg6) = (V (Proc.devRef .tc main_arg6)) := by
  simp only [opsC, TRef.nullary, TRef.quaternary, TRef.binary, TRef.unary, TRef.toBuf, TRef.ofBuf, cast_eq]
  after_results_simp <;> rfl

set_option maxRecDepth 16384 in
set_option maxHeartbeats 8000000 in
theorem opsC_main_arg7 (V : Valuation τ sig (Elt F)) : after opsC V (Proc.devRef .tc main_arg7) = (V (Proc.devRef .tc main_arg7)) := by
  simp only [opsC, TRef.nullary, TRef.quaternary, TRef.binary, TRef.unary, TRef.toBuf, TRef.ofBuf, cast_eq]
  after_results_simp <;> rfl

set_option maxRecDepth 16384 in
set_option maxHeartbeats 8000000 in
theorem opsC_main_arg8 (V : Valuation τ sig (Elt F)) : after opsC V (Proc.devRef .tc main_arg8) = (V (Proc.devRef .tc main_arg8)) := by
  simp only [opsC, TRef.nullary, TRef.quaternary, TRef.binary, TRef.unary, TRef.toBuf, TRef.ofBuf, cast_eq]
  after_results_simp <;> rfl

set_option maxRecDepth 16384 in
set_option maxHeartbeats 8000000 in
theorem opsC_main_arg9 (V : Valuation τ sig (Elt F)) : after opsC V (Proc.devRef .tc main_arg9) = (V (Proc.devRef .tc main_arg9)) := by
  simp only [opsC, TRef.nullary, TRef.quaternary, TRef.binary, TRef.unary, TRef.toBuf, TRef.ofBuf, cast_eq]
  after_results_simp <;> rfl

set_option maxRecDepth 16384 in
set_option maxHeartbeats 8000000 in
theorem opsD_main_v49 (V : Valuation τ sig (Elt F)) : after opsD V (Proc.devRef .tc main_v49) = rN (rZ (V (Proc.devRef .tc main_v18))) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_v62 (V : Valuation τ sig (Elt F)) : after opsD V (Proc.devRef .tc main_v62) = rM (rN (rZ (V (Proc.devRef .tc main_v18)))) (rN (rZ (V (Proc.devRef .tc main_v40)))) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_v18 (V : Valuation τ sig (Elt F)) : after opsD V (Proc.devRef .tc main_v18) = (V (Proc.devRef .tc main_v18)) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_v40 (V : Valuation τ sig (Elt F)) : after opsD V (Proc.devRef .tc main_v40) = (V (Proc.devRef .tc main_v40)) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_arg0 (V : Valuation τ sig (Elt F)) : after opsD V (Proc.devRef .tc main_arg0) = (V (Proc.devRef .tc main_arg0)) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_arg1 (V : Valuation τ sig (Elt F)) : after opsD V (Proc.devRef .tc main_arg1) = (V (Proc.devRef .tc main_arg1)) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_arg2 (V : Valuation τ sig (Elt F)) : after opsD V (Proc.devRef .tc main_arg2) = (V (Proc.devRef .tc main_arg2)) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_arg3 (V : Valuation τ sig (Elt F)) : after opsD V (Proc.devRef .tc main_arg3) = (V (Proc.devRef .tc main_arg3)) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_arg4 (V : Valuation τ sig (Elt F)) : after opsD V (Proc.devRef .tc main_arg4) = (V (Proc.devRef .tc main_arg4)) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_arg5 (V : Valuation τ sig (Elt F)) : after opsD V (Proc.devRef .tc main_arg5) = (V (Proc.devRef .tc main_arg5)) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_arg6 (V : Valuation τ sig (Elt F)) : after opsD V (Proc.devRef .tc main_arg6) = (V (Proc.devRef .tc main_arg6)) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_arg7 (V : Valuation τ sig (Elt F)) : after opsD V (Proc.devRef .tc main_arg7) = (V (Proc.devRef .tc main_arg7)) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_arg8 (V : Valuation τ sig (Elt F)) : after opsD V (Proc.devRef .tc main_arg8) = (V (Proc.devRef .tc main_arg8)) := by
  simp only [opsD, TRef.nullary, TRef.quaternary, TRef.binary, TRef.unary, TRef.toBuf, TRef.ofBuf, cast_eq]
  after_results_simp <;> rfl

set_option maxRecDepth 16384 in
set_option maxHeartbeats 8000000 in
theorem opsD_main_arg9 (V : Valuation τ sig (Elt F)) : after opsD V (Proc.devRef .tc main_arg9) = (V (Proc.devRef .tc main_arg9)) := by
  simp only [opsD, TRef.nullary, TRef.quaternary, TRef.binary, TRef.unary, TRef.toBuf, TRef.ofBuf, cast_eq]
  after_results_simp <;> rfl

end Cert.ReferenceIdeal.Hand

end
-- ==== Proof.RefReadE.lean ====
/- What each line of the reference's operations leaves in the buffers that are read later. -/
module

public import proofs.«01_k».proof.Proof.RefOps
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
theorem opsE_main_v83 (V : Valuation τ sig (Elt F)) : after opsE V (Proc.devRef .tc main_v83) = rD (V (Proc.devRef .tc main_v49)) (rC (V (Proc.devRef .tc main_arg9))) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_v18 (V : Valuation τ sig (Elt F)) : after opsE V (Proc.devRef .tc main_v18) = (V (Proc.devRef .tc main_v18)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_v40 (V : Valuation τ sig (Elt F)) : after opsE V (Proc.devRef .tc main_v40) = (V (Proc.devRef .tc main_v40)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_v49 (V : Valuation τ sig (Elt F)) : after opsE V (Proc.devRef .tc main_v49) = (V (Proc.devRef .tc main_v49)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_v62 (V : Valuation τ sig (Elt F)) : after opsE V (Proc.devRef .tc main_v62) = (V (Proc.devRef .tc main_v62)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_arg0 (V : Valuation τ sig (Elt F)) : after opsE V (Proc.devRef .tc main_arg0) = (V (Proc.devRef .tc main_arg0)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_arg1 (V : Valuation τ sig (Elt F)) : after opsE V (Proc.devRef .tc main_arg1) = (V (Proc.devRef .tc main_arg1)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_arg2 (V : Valuation τ sig (Elt F)) : after opsE V (Proc.devRef .tc main_arg2) = (V (Proc.devRef .tc main_arg2)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_arg3 (V : Valuation τ sig (Elt F)) : after opsE V (Proc.devRef .tc main_arg3) = (V (Proc.devRef .tc main_arg3)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_arg4 (V : Valuation τ sig (Elt F)) : after opsE V (Proc.devRef .tc main_arg4) = (V (Proc.devRef .tc main_arg4)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_arg5 (V : Valuation τ sig (Elt F)) : after opsE V (Proc.devRef .tc main_arg5) = (V (Proc.devRef .tc main_arg5)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_arg6 (V : Valuation τ sig (Elt F)) : after opsE V (Proc.devRef .tc main_arg6) = (V (Proc.devRef .tc main_arg6)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_arg7 (V : Valuation τ sig (Elt F)) : after opsE V (Proc.devRef .tc main_arg7) = (V (Proc.devRef .tc main_arg7)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_arg8 (V : Valuation τ sig (Elt F)) : after opsE V (Proc.devRef .tc main_arg8) = (V (Proc.devRef .tc main_arg8)) := by
  simp only [opsE, TRef.nullary, TRef.quaternary, TRef.binary, TRef.unary, TRef.toBuf, TRef.ofBuf, cast_eq]
  after_results_simp <;> rfl

set_option maxRecDepth 16384 in
set_option maxHeartbeats 8000000 in
theorem opsE_main_arg9 (V : Valuation τ sig (Elt F)) : after opsE V (Proc.devRef .tc main_arg9) = (V (Proc.devRef .tc main_arg9)) := by
  simp only [opsE, TRef.nullary, TRef.quaternary, TRef.binary, TRef.unary, TRef.toBuf, TRef.ofBuf, cast_eq]
  after_results_simp <;> rfl

end Cert.ReferenceIdeal.Hand

end
-- ==== Proof.RefReadG.lean ====
/- What each line of the reference's operations leaves in the buffers that are read later. -/
module

public import proofs.«01_k».proof.Proof.RefOps
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
theorem opsG_main_v93 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_v93) = rO (rU (V (Proc.devRef .tc main_v49))) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_v94 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_v94) = rO (V (Proc.devRef .tc main_v18)) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_v95 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_v95) = rO (V (Proc.devRef .tc main_v40)) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_v96 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_v96) = rI f2 (V (Proc.devRef .tc main_v83)) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_v97 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_v97) = rG (rT (V (Proc.devRef .tc main_v83))) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_v98 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_v98) = shapeCast _ (V (Proc.devRef .tc main_v62)) shapeCasts_S_S1x1 := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_arg0 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_arg0) = (V (Proc.devRef .tc main_arg0)) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_arg1 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_arg1) = (V (Proc.devRef .tc main_arg1)) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_arg2 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_arg2) = (V (Proc.devRef .tc main_arg2)) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_arg3 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_arg3) = (V (Proc.devRef .tc main_arg3)) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_arg4 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_arg4) = (V (Proc.devRef .tc main_arg4)) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_arg5 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_arg5) = (V (Proc.devRef .tc main_arg5)) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_arg6 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_arg6) = (V (Proc.devRef .tc main_arg6)) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_arg7 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_arg7) = (V (Proc.devRef .tc main_arg7)) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_arg8 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_arg8) = (V (Proc.devRef .tc main_arg8)) := by
  simp only [opsG, TRef.nullary, TRef.quaternary, TRef.binary, TRef.unary, TRef.toBuf, TRef.ofBuf, cast_eq]
  after_results_simp <;> rfl

set_option maxRecDepth 16384 in
set_option maxHeartbeats 8000000 in
theorem opsG_main_arg9 (f1 : FVec F S9216x512 .f32 → IVec S9216x512 32 → FVec F S_ .f32 → IVec S_ 32 → FVec F S9216 .f32) (f2 : FVec F S9216x512 .f32 → IVec S9216x512 32 → FVec F S_ .f32 → IVec S_ 32 → IVec S9216 32) (V : Valuation τ sig (Elt F)) : after (opsG f1 f2) V (Proc.devRef .tc main_arg9) = (V (Proc.devRef .tc main_arg9)) := by
  simp only [opsG, TRef.nullary, TRef.quaternary, TRef.binary, TRef.unary, TRef.toBuf, TRef.ofBuf, cast_eq]
  after_results_simp <;> rfl

end Cert.ReferenceIdeal.Hand

end
-- ==== Proof.RefRun.lean ====
/- The run of the reference program's host code: every result as its stages' function of the arguments. -/
module

public import proofs.«01_k».proof.Proof.RefReadA
public import proofs.«01_k».proof.Proof.RefReadC
public import proofs.«01_k».proof.Proof.RefReadE
public import proofs.«01_k».proof.Proof.RefReadG

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (m : (ℓ : Loc nD τ sig) → Buf (Elt F) ℓ) (c : Dev nD)

/-- The online head's map. -/
def map1 (a0 : FVec F S16x3x384x384 .f32) (a2 : FVec F S768x384 .f32) (a3 : FVec F S384x384 .f32) (a4 a5 : FVec F S384x64 .f32) : FVec F S16x64x24x24 .f32 :=
  rV (rH (rF (rTok a0) a2) a3 a4 a5)
/-- The averaged head's map. -/
def map2 (a1 : FVec F S16x3x384x384 .f32) (a2 : FVec F S768x384 .f32) (a3 : FVec F S384x384 .f32) (a4 a5 : FVec F S384x64 .f32) (a6 : FVec F S384x384 .f32) (a7 a8 : FVec F S384x64 .f32) : FVec F S16x64x24x24 .f32 :=
  rV (rH (rF (rTok a1) a2) (rMix1 a6 a3) (rMix2 a7 a4) (rMix2 a8 a5))

theorem read_main_v93 : after ops (launchContents m c) (Proc.devRef .tc main_v93) = rO (rU (rN (rZ (map1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))))) := by
  rw [ops_eq, after_two, after_two, after_two, after_two, after_two, opsG_main_v93, opsE_main_v49, opsD_main_v49, opsC_main_v18, opsB_main_v18, opsA_main_v18]
  rfl

theorem read_main_v94 : after ops (launchContents m c) (Proc.devRef .tc main_v94) = rO (map1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) := by
  rw [ops_eq, after_two, after_two, after_two, after_two, after_two, opsG_main_v94, opsE_main_v18, opsD_main_v18, opsC_main_v18, opsB_main_v18, opsA_main_v18]
  rfl

theorem read_main_v95 : after ops (launchContents m c) (Proc.devRef .tc main_v95) = rO (map2 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  rw [ops_eq, after_two, after_two, after_two, after_two, after_two, opsG_main_v95, opsE_main_v40, opsD_main_v40, opsC_main_v40, opsB_main_v11, opsB_main_v23, opsB_main_v28, opsB_main_v33, opsA_main_v11, opsA_main_arg3, opsA_main_arg4, opsA_main_arg5, opsA_main_arg6, opsA_main_arg7, opsA_main_arg8]
  rfl

theorem read_main_v96 : after ops (launchContents m c) (Proc.devRef .tc main_v96) = rI fn_arg2 (rD (rN (rZ (map1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))))) (rC (m ((c.tc : Thread nD τ).loc main_arg9)))) := by
  rw [ops_eq, after_two, after_two, after_two, after_two, after_two, opsG_main_v96, opsE_main_v83, opsD_main_arg9, opsC_main_arg9, opsB_main_arg9, opsA_main_arg9, opsD_main_v49, opsC_main_v18, opsB_main_v18, opsA_main_v18]
  rfl

theorem read_main_v97 : after ops (launchContents m c) (Proc.devRef .tc main_v97) = rG (rT (rD (rN (rZ (map1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))))) (rC (m ((c.tc : Thread nD τ).loc main_arg9))))) := by
  rw [ops_eq, after_two, after_two, after_two, after_two, after_two, opsG_main_v97, opsE_main_v83, opsD_main_arg9, opsC_main_arg9, opsB_main_arg9, opsA_main_arg9, opsD_main_v49, opsC_main_v18, opsB_main_v18, opsA_main_v18]
  rfl

theorem read_main_v98 : after ops (launchContents m c) (Proc.devRef .tc main_v98) = shapeCast _ (rM (rN (rZ (map1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))))) (rN (rZ (map2 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))))) shapeCasts_S_S1x1 := by
  rw [ops_eq, after_two, after_two, after_two, after_two, after_two, opsG_main_v98, opsE_main_v62, opsD_main_v62, opsC_main_v18, opsB_main_v18, opsA_main_v18, opsC_main_v40, opsB_main_v11, opsB_main_v23, opsB_main_v28, opsB_main_v33, opsA_main_v11, opsA_main_arg3, opsA_main_arg4, opsA_main_arg5, opsA_main_arg6, opsA_main_arg7, opsA_main_arg8]
  rfl

theorem read_main_arg0 : after ops (launchContents m c) (Proc.devRef .tc main_arg0) = m ((c.tc : Thread nD τ).loc main_arg0) := by
  rw [ops_eq, after_two, after_two, after_two, after_two, after_two, opsG_main_arg0, opsE_main_arg0, opsD_main_arg0, opsC_main_arg0, opsB_main_arg0, opsA_main_arg0]

theorem read_main_arg1 : after ops (launchContents m c) (Proc.devRef .tc main_arg1) = m ((c.tc : Thread nD τ).loc main_arg1) := by
  rw [ops_eq, after_two, after_two, after_two, after_two, after_two, opsG_main_arg1, opsE_main_arg1, opsD_main_arg1, opsC_main_arg1, opsB_main_arg1, opsA_main_arg1]

theorem read_main_arg2 : after ops (launchContents m c) (Proc.devRef .tc main_arg2) = m ((c.tc : Thread nD τ).loc main_arg2) := by
  rw [ops_eq, after_two, after_two, after_two, after_two, after_two, opsG_main_arg2, opsE_main_arg2, opsD_main_arg2, opsC_main_arg2, opsB_main_arg2, opsA_main_arg2]

theorem read_main_arg3 : after ops (launchContents m c) (Proc.devRef .tc main_arg3) = m ((c.tc : Thread nD τ).loc main_arg3) := by
  rw [ops_eq, after_two, after_two, after_two, after_two, after_two, opsG_main_arg3, opsE_main_arg3, opsD_main_arg3, opsC_main_arg3, opsB_main_arg3, opsA_main_arg3]

theorem read_main_arg4 : after ops (launchContents m c) (Proc.devRef .tc main_arg4) = m ((c.tc : Thread nD τ).loc main_arg4) := by
  rw [ops_eq, after_two, after_two, after_two, after_two, after_two, opsG_main_arg4, opsE_main_arg4, opsD_main_arg4, opsC_main_arg4, opsB_main_arg4, opsA_main_arg4]

theorem read_main_arg5 : after ops (launchContents m c) (Proc.devRef .tc main_arg5) = m ((c.tc : Thread nD τ).loc main_arg5) := by
  rw [ops_eq, after_two, after_two, after_two, after_two, after_two, opsG_main_arg5, opsE_main_arg5, opsD_main_arg5, opsC_main_arg5, opsB_main_arg5, opsA_main_arg5]

theorem read_main_arg6 : after ops (launchContents m c) (Proc.devRef .tc main_arg6) = m ((c.tc : Thread nD τ).loc main_arg6) := by
  rw [ops_eq, after_two, after_two, after_two, after_two, after_two, opsG_main_arg6, opsE_main_arg6, opsD_main_arg6, opsC_main_arg6, opsB_main_arg6, opsA_main_arg6]

theorem read_main_arg7 : after ops (launchContents m c) (Proc.devRef .tc main_arg7) = m ((c.tc : Thread nD τ).loc main_arg7) := by
  rw [ops_eq, after_two, after_two, after_two, after_two, after_two, opsG_main_arg7, opsE_main_arg7, opsD_main_arg7, opsC_main_arg7, opsB_main_arg7, opsA_main_arg7]

theorem read_main_arg8 : after ops (launchContents m c) (Proc.devRef .tc main_arg8) = m ((c.tc : Thread nD τ).loc main_arg8) := by
  rw [ops_eq, after_two, after_two, after_two, after_two, after_two, opsG_main_arg8, opsE_main_arg8, opsD_main_arg8, opsC_main_arg8, opsB_main_arg8, opsA_main_arg8]

theorem read_main_arg9 : after ops (launchContents m c) (Proc.devRef .tc main_arg9) = m ((c.tc : Thread nD τ).loc main_arg9) := by
  rw [ops_eq, after_two, after_two, after_two, after_two, after_two, opsG_main_arg9, opsE_main_arg9, opsD_main_arg9, opsC_main_arg9, opsB_main_arg9, opsA_main_arg9]

/-- Every execution of the reference ends with each result at its stages' function of the arguments, the arguments
    unchanged. -/
theorem run (ρ : Dev nD → PrngReg) :
    θ_run defs (onTc (τ := τ) (main (F := F))) ⟨m, fun _ => 0, ρ⟩ fun r => ∀ c : Dev nD,
      r.2.mem ((c.tc : Thread nD τ).loc main_v93) = rO (rU (rN (rZ (map1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))))))
      ∧ r.2.mem ((c.tc : Thread nD τ).loc main_v94) = rO (map1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v95) = rO (map2 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_v96) = rI fn_arg2 (rD (rN (rZ (map1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))))) (rC (m ((c.tc : Thread nD τ).loc main_arg9))))
      ∧ r.2.mem ((c.tc : Thread nD τ).loc main_v97) = rG (rT (rD (rN (rZ (map1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))))) (rC (m ((c.tc : Thread nD τ).loc main_arg9)))))
      ∧ r.2.mem ((c.tc : Thread nD τ).loc main_v98) = shapeCast _ (rM (rN (rZ (map1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))))) (rN (rZ (map2 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))))) shapeCasts_S_S1x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v93).trans (read_main_v93 m c), (h c main_v94).trans (read_main_v94 m c), (h c main_v95).trans (read_main_v95 m c), (h c main_v96).trans (read_main_v96 m c), (h c main_v97).trans (read_main_v97 m c), (h c main_v98).trans (read_main_v98 m c), (h c main_arg0).trans (read_main_arg0 m c), (h c main_arg1).trans (read_main_arg1 m c), (h c main_arg2).trans (read_main_arg2 m c), (h c main_arg3).trans (read_main_arg3 m c), (h c main_arg4).trans (read_main_arg4 m c), (h c main_arg5).trans (read_main_arg5 m c), (h c main_arg6).trans (read_main_arg6 m c), (h c main_arg7).trans (read_main_arg7 m c), (h c main_arg8).trans (read_main_arg8 m c), (h c main_arg9).trans (read_main_arg9 m c)⟩)
    (run_seq scopedRefs_eq scopedSems_eq defs main (fun _ => ops) main_eq (fun _ => ops_sub) m ρ)

end Cert.ReferenceIdeal.Hand

end
-- ==== Proof.Math.lean ====
/- Facts about extended reals that both sides of the value claims use: rows over their norms are real, a sum of
   exponentials may be shifted by the greatest exponent, and a finite sum may be scaled term by term. -/
module

public import Idealize.ShloMosaic.Lib.WordCmp
public import Idealize.ShloMosaic.Lib.WordArith
public import Idealize.ShloMosaic.Lib.Pointwise

@[expose] public section

set_option maxRecDepth 16384

noncomputable section

namespace Cert.Hand

open Idealize.ShloMosaic

/-! ## Real values -/

/-- The value is a real number. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type} (s : Finset ι) (f : ι → EReal) (h : ∀ i, IsR (f i)) : IsR (∑ i ∈ s, f i) := by
  classical
  induction s using Finset.induction_on with
  | empty => rw [Finset.sum_empty]; exact IsR.zero
  | insert a s ha ih => rw [Finset.sum_insert ha]; exact (h a).add ih

/-- A sum of real numbers, each read as an extended real, is the sum read so. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A scale that is a nonnegative real passes through a finite sum. -/
theorem sum_scale {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-! ## Rows over their norms -/

/-- The least norm a row is divided by. -/
abbrev eps : EReal := Ideal.ofBits .f32 0x2B8CBCCC#32

theorem eps_pos : ∃ e : ℝ, 0 < e ∧ eps = (e : EReal) := by
  refine ⟨_, ?_, by simp only [eps, Ideal.ofBits, Ideal.ieee]; rw [if_neg (by decide), if_neg (by decide)]⟩
  simp

/-- The square of a value that is not real is the top. -/
theorem mul_self_of_not_isR {x : EReal} (h : ¬IsR x) : x * x = ⊤ := by
  induction x using EReal.rec with
  | bot => exact EReal.bot_mul_bot
  | coe r => exact absurd ⟨r, rfl⟩ h
  | top => exact EReal.top_mul_top

theorem mul_self_nonneg (x : EReal) : 0 ≤ x * x := by
  induction x using EReal.rec with
  | bot => rw [EReal.bot_mul_bot]; exact le_top
  | coe r => rw [← EReal.coe_mul]; exact_mod_cast _root_.mul_self_nonneg r
  | top => rw [EReal.top_mul_top]; exact le_top

/-- The norm of a row, not below the least one. -/
def nrm {n : ℕ} (v : Fin n → EReal) : EReal := max eps (Ideal.sqrt (∑ k, v k * v k))

/-- A row over its norm. -/
def nrow {n : ℕ} (v : Fin n → EReal) (d : Fin n) : EReal := Ideal.div (v d) (nrm v)

theorem sqrt_coe_nonneg {r : ℝ} (h : 0 ≤ r) : Ideal.sqrt (r : EReal) = ((Real.sqrt r : ℝ) : EReal) := by
  show (if r < 0 then ⊥ else (Real.sqrt r : EReal)) = _
  rw [if_neg (not_lt.mpr h)]

/-- A row over its norm is real, whatever the row is. -/
theorem nrow_isR {n : ℕ} (v : Fin n → EReal) (d : Fin n) : IsR (nrow v d) := by
  obtain ⟨e, he, hE⟩ := eps_pos
  unfold nrow nrm
  rw [hE]
  by_cases h : ∀ k, IsR (v k)
  · choose w hw using h
    have hs : (∑ k, v k * v k) = ((∑ k, w k * w k : ℝ) : EReal) := by
      rw [coe_sum]; exact Finset.sum_congr rfl fun k _ => by rw [hw k, EReal.coe_mul]
    rw [hs, sqrt_coe_nonneg (Finset.sum_nonneg fun k _ => _root_.mul_self_nonneg (w k)), hw d]
    have hm : max (e : EReal) ((Real.sqrt (∑ k, w k * w k) : ℝ) : EReal)
        = ((max e (Real.sqrt (∑ k, w k * w k)) : ℝ) : EReal) := by
      rcases le_total e (Real.sqrt (∑ k, w k * w k)) with h | h
      · rw [max_eq_right h, max_eq_right (by exact_mod_cast h)]
      · rw [max_eq_left h, max_eq_left (by exact_mod_cast h)]
    rw [hm, Ideal.div_coe (ne_of_gt (lt_of_lt_of_le he (le_max_left _ _)))]
    exact (IsR.coe _).mul (IsR.coe _)
  · obtain ⟨k, hk⟩ := not_forall.mp h
    have hs : (∑ k, v k * v k) = ⊤ := by
      have h1 : v k * v k ≤ ∑ k, v k * v k :=
        Finset.single_le_sum (f := fun k => v k * v k) (fun i _ => mul_self_nonneg (v i)) (Finset.mem_univ k)
      rw [mul_self_of_not_isR hk] at h1
      exact top_le_iff.mp h1
    rw [hs]
    show IsR (Ideal.div (v d) (max (e : EReal) ⊤))
    rw [max_eq_right le_top]
    unfold Ideal.div
    rw [if_neg (by decide), EReal.inv_top, mul_zero]
    exact IsR.zero

/-! ## The head of a patch -/

/-- The features of a patch. -/
def feat (x : Fin 768 → EReal) (P : Fin 768 → Fin 384 → EReal) (j : Fin 384) : EReal := ∑ k, x k * P k j

/-- The head over features. -/
def head (f : Fin 384 → EReal) (A : Fin 384 → Fin 384 → EReal) (B C : Fin 384 → Fin 64 → EReal) (o : Fin 64) : EReal :=
  (∑ j, max (∑ i, f i * A i j) 0 * B j o) + ∑ j, f j * C j o

/-- The moving average of a weight. -/
def mix (e w : EReal) : EReal := Ideal.ofBits .f32 0x3F7D70A4#32 * e + Ideal.ofBits .f32 0x3C23D70A#32 * w

/-- The squared distance of two rows, expanded. -/
def sq {n : ℕ} (a b : Fin n → EReal) : EReal := ((∑ d, a d * a d) + ∑ d, b d * b d) - Ideal.ofBits .f32 0x40000000#32 * ∑ d, a d * b d

/-! ## The greatest of a row -/

/-- The fold of `max` from below a nonempty row is its supremum. -/
theorem fold_max_eq_sup {n : ℕ} (b : EReal) (hb : b = ⊥) (f : Fin n → EReal) :
    Finset.univ.fold max b f = Finset.univ.sup f := by subst hb; rfl

theorem sup_isR {n : ℕ} (hn : 0 < n) (f : Fin n → EReal) (h : ∀ k, IsR (f k)) : ∃ k, Finset.univ.sup f = f k := by
  haveI : Nonempty (Fin n) := ⟨⟨0, hn⟩⟩
  obtain ⟨k, -, hk⟩ := Finset.exists_mem_eq_sup Finset.univ Finset.univ_nonempty f
  exact ⟨k, hk⟩

/-! ## The logarithm of a sum of exponentials -/

theorem exp_coe (r : ℝ) : Ideal.exp (r : EReal) = ((Real.exp r : ℝ) : EReal) := rfl
theorem log_coe {r : ℝ} (h : 0 < r) : Ideal.log (r : EReal) = ((Real.log r : ℝ) : EReal) := by
  show (if r ≤ 0 then ⊥ else (Real.log r : EReal)) = _
  rw [if_neg (not_le.mpr h)]

/-- Shifting the exponents by any real value and adding it back changes nothing. -/
theorem lse_shift {n : ℕ} (hn : 0 < n) (f : Fin n → EReal) (h : ∀ k, IsR (f k)) (M : EReal) (hM : IsR M) :
    Ideal.log (∑ k, Ideal.exp (f k)) = M + Ideal.log (∑ k, Ideal.exp (f k - M)) := by
  haveI : Nonempty (Fin n) := ⟨⟨0, hn⟩⟩
  choose w hw using h
  obtain ⟨μ, rfl⟩ := hM
  have h1 : (∑ k, Ideal.exp (f k)) = ((∑ k, Real.exp (w k) : ℝ) : EReal) := by
    rw [coe_sum]; exact Finset.sum_congr rfl fun k _ => by rw [hw k, exp_coe]
  have h2 : (∑ k, Ideal.exp (f k - (μ : EReal))) = ((Real.exp (-μ) * ∑ k, Real.exp (w k) : ℝ) : EReal) := by
    rw [Finset.mul_sum, coe_sum]
    refine Finset.sum_congr rfl fun k _ => ?_
    rw [hw k, ← EReal.coe_sub, exp_coe, ← Real.exp_add]
    congr 2; ring
  have hp : 0 < ∑ k, Real.exp (w k) := Finset.sum_pos (fun k _ => Real.exp_pos _) Finset.univ_nonempty
  rw [h1, h2, log_coe hp, log_coe (mul_pos (Real.exp_pos _) hp), ← EReal.coe_add,
    Real.log_mul (Real.exp_pos _).ne' hp.ne', Real.log_exp]
  congr 1; ring

theorem lse_isR {n : ℕ} (hn : 0 < n) (f : Fin n → EReal) (h : ∀ k, IsR (f k)) :
    IsR (Ideal.log (∑ k, Ideal.exp (f k))) := by
  haveI : Nonempty (Fin n) := ⟨⟨0, hn⟩⟩
  choose w hw using h
  have h1 : (∑ k, Ideal.exp (f k)) = ((∑ k, Real.exp (w k) : ℝ) : EReal) := by
    rw [coe_sum]; exact Finset.sum_congr rfl fun k _ => by rw [hw k, exp_coe]
  have hp : 0 < ∑ k, Real.exp (w k) := Finset.sum_pos (fun k _ => Real.exp_pos _) Finset.univ_nonempty
  rw [h1, log_coe hp]; exact IsR.coe _

end Cert.Hand

end
-- ==== Proof.Pure1.lean ====
/- The first call's stored values, read at an index as functions of the blocks read before them. -/
module

public import proofs.«01_k».proof.Proof.Math
public import proofs.«01_k».proof.Proof.Gen.KernelIdeal.Skeleton

@[expose] public section

set_option maxRecDepth 16384

noncomputable section

open Idealize.ShloMosaic Idealize.ShloMosaic.TcCoe Idealize.SL.Sem

namespace Cert.KernelIdeal.Hand

open Cert.KernelIdeal Cert.KernelIdeal.Gen Cert.Hand

theorem neg_big : Named.named (F := Ideal) Cert.KernelIdeal.κ "neg_big" (φ := .f32) 0xFF61B1E6#32 = (⊥ : EReal) :=
  IdealRules.named_const.ideal_named_scalar _ _ _ _ rfl
theorem inv_count : Named.named (F := Ideal) Cert.KernelIdeal.κ "inv_count" (φ := .f32) 0x35E38E39#32 = (((589824 : ℝ)⁻¹ : ℝ) : EReal) :=
  IdealRules.named_const.ideal_named_scalar _ _ _ _ rfl

theorem select_eqi {α : Type} (a b : BitVec 32) (x y : α) : Scalar.select (IntOp.cmpi .eq a b) x y = if a = b then x else y := by
  show (if BitVec.ofBool (a == b) = 1#1 then x else y) = _
  by_cases h : a = b
  · subst h; simp
  · rw [if_neg h, show (a == b) = false from beq_false_of_ne h]; rfl

theorem pay7_at (v0 : FVec Ideal S576x768 .f32) (v4 : FVec Ideal S768x384 .f32) (v6 : FVec Ideal S384x384 .f32) (v10 v12 : FVec Ideal S384x64 .f32)
    (r : Fin 576) (o : Fin 64) :
    k0_pay7 (F := Ideal) v0 v4 v6 v10 v12 (ix2 r o)
      = head (feat (fun k => v0 (ix2 r k)) (fun k j => v4 (ix2 k j))) (fun i j => v6 (ix2 i j)) (fun j o => v10 (ix2 j o)) (fun j o => v12 (ix2 j o)) o := by
  pointwise [k0_pay7]
  rfl

theorem pay8_at (v0 : FVec Ideal S576x768 .f32) (v4 : FVec Ideal S768x384 .f32) (v6 : FVec Ideal S384x384 .f32) (v10 v12 : FVec Ideal S384x64 .f32)
    (z : Fin 1) (o : Fin 64) (r : Fin 576) :
    k0_pay8 (F := Ideal) v0 v4 v6 v10 v12 (ix3 z o r) = k0_pay7 (F := Ideal) v0 v4 v6 v10 v12 (ix2 r o) := by
  unfold k0_pay8
  pointwise

theorem pay9_at (v0 : FVec Ideal S576x768 .f32) (v4 : FVec Ideal S768x384 .f32) (v6 : FVec Ideal S384x384 .f32) (v10 v12 : FVec Ideal S384x64 .f32)
    (r : Fin 576) (o : Fin 64) :
    k0_pay9 (F := Ideal) v0 v4 v6 v10 v12 (ix2 r o) = nrow (fun o => k0_pay7 (F := Ideal) v0 v4 v6 v10 v12 (ix2 r o)) o := by
  unfold k0_pay9
  generalize k0_pay7 (F := Ideal) v0 v4 v6 v10 v12 = z
  pointwise
  rfl

theorem pay10_at (v0 : FVec Ideal S576x768 .f32) (v4 : FVec Ideal S768x384 .f32) (v6 : FVec Ideal S384x384 .f32) (v10 v12 : FVec Ideal S384x64 .f32)
    (z : Fin 1) (o : Fin 64) (r : Fin 576) :
    k0_pay10 (F := Ideal) v0 v4 v6 v10 v12 (ix3 z o r) = k0_pay9 (F := Ideal) v0 v4 v6 v10 v12 (ix2 r o) := by
  unfold k0_pay10
  pointwise

theorem pay6_eq (v2 : FVec Ideal S576x768 .f32) (r : Fin 576) (k : Fin 768) : k0_pay6 (F := Ideal) v2 (ix2 r k) = v2 (ix2 r k) := by
  pointwise [k0_pay6]

theorem pay11_at (v3 : FVec Ideal S576x768 .f32) (v31 v34 : FVec Ideal S384x384 .f32) (v38 v41 v45 v48 : FVec Ideal S384x64 .f32) (v52 : FVec Ideal S768x384 .f32)
    (r : Fin 576) (o : Fin 64) :
    k0_pay11 (F := Ideal) v3 v31 v34 v38 v41 v45 v48 v52 (ix2 r o)
      = head (feat (fun k => v3 (ix2 r k)) (fun k j => v52 (ix2 k j))) (fun i j => mix (v31 (ix2 i j)) (v34 (ix2 i j)))
          (fun j o => mix (v38 (ix2 j o)) (v41 (ix2 j o))) (fun j o => mix (v45 (ix2 j o)) (v48 (ix2 j o))) o := by
  pointwise [k0_pay11]
  rfl

theorem pay12_at (v3 : FVec Ideal S576x768 .f32) (v31 v34 : FVec Ideal S384x384 .f32) (v38 v41 v45 v48 : FVec Ideal S384x64 .f32) (v52 : FVec Ideal S768x384 .f32)
    (z : Fin 1) (o : Fin 64) (r : Fin 576) :
    k0_pay12 (F := Ideal) v3 v31 v34 v38 v41 v45 v48 v52 (ix3 z o r) = k0_pay11 (F := Ideal) v3 v31 v34 v38 v41 v45 v48 v52 (ix2 r o) := by
  unfold k0_pay12
  pointwise

theorem pay13_eq (n z : FVec Ideal S576x64 .f32) :
    k0_pay13 (F := Ideal) n z = (∑ r : Fin 576, ∑ d : Fin 64, (n (ix2 r d) - nrow (fun d => z (ix2 r d)) d) * (n (ix2 r d) - nrow (fun d => z (ix2 r d)) d))
      * (((589824 : ℝ)⁻¹ : ℝ) : EReal) := by
  pointwise [k0_pay13, inv_count]
  rfl

/-- The kernel's negated distance. -/
def ng {n : ℕ} (a b : Fin n → EReal) : EReal := (Ideal.ofBits .f32 0x40000000#32 * ∑ d, a d * b d - ∑ d, a d * a d) - ∑ d, b d * b d

theorem two_eq : Ideal.ofBits .f32 0x40000000#32 = ((2 : ℝ) : EReal) := by
  simp [Ideal.ofBits, Ideal.ieee, -EReal.coe_mul]; norm_num

theorem ng_eq {n : ℕ} (a b : Fin n → EReal) (ha : ∀ d, IsR (a d)) (hb : ∀ d, IsR (b d)) : ng a b = -(Cert.Hand.sq a b) := by
  obtain ⟨x, hx⟩ : IsR (∑ d, a d * a d) := IsR.sum _ _ fun d => (ha d).mul (ha d)
  obtain ⟨y, hy⟩ : IsR (∑ d, b d * b d) := IsR.sum _ _ fun d => (hb d).mul (hb d)
  obtain ⟨z, hz⟩ : IsR (∑ d, a d * b d) := IsR.sum _ _ fun d => (ha d).mul (hb d)
  unfold ng Cert.Hand.sq
  rw [hx, hy, hz, two_eq]
  norm_cast
  ring_nf

theorem sq_isR {n : ℕ} (a b : Fin n → EReal) (ha : ∀ d, IsR (a d)) (hb : ∀ d, IsR (b d)) : IsR (Cert.Hand.sq a b) := by
  obtain ⟨x, hx⟩ : IsR (∑ d, a d * a d) := IsR.sum _ _ fun d => (ha d).mul (ha d)
  obtain ⟨y, hy⟩ : IsR (∑ d, b d * b d) := IsR.sum _ _ fun d => (hb d).mul (hb d)
  obtain ⟨z, hz⟩ : IsR (∑ d, a d * b d) := IsR.sum _ _ fun d => (ha d).mul (hb d)
  unfold Cert.Hand.sq
  rw [hx, hy, hz, two_eq]
  exact ⟨x + y - 2 * z, by norm_cast⟩

theorem pay14_at (n : FVec Ideal S576x64 .f32) (c : FVec Ideal S512x64 .f32) (r : Fin 576) (k : Fin 512) :
    k0_pay14 (F := Ideal) n c (ix2 r k) = ng (fun d => n (ix2 r d)) (nrow (fun d => c (ix2 k d))) := by
  pointwise [k0_pay14]
  rfl

theorem ninf : Ideal.ofBits .f32 0xFF800000#32 = (⊥ : EReal) := by
  simp [Ideal.ofBits, Ideal.ieee]

theorem pay15_at (n : FVec Ideal S576x64 .f32) (c : FVec Ideal S512x64 .f32) (r : Fin 576) (z : Fin 1) :
    k0_pay15 (F := Ideal) n c (ix2 r z) = Finset.univ.sup fun k : Fin 512 => k0_pay14 (F := Ideal) n c (ix2 r k) := by
  unfold k0_pay15
  generalize k0_pay14 (F := Ideal) n c = v
  pointwise [ninf]
  exact fold_max_eq_sup _ (by simp) _

theorem pay16_at (n : FVec Ideal S576x64 .f32) (c : FVec Ideal S512x64 .f32) (r : Fin 576) (k : Fin 512) :
    k0_pay16 (F := Ideal) n c (ix2 r k)
      = if k0_pay14 (F := Ideal) n c (ix2 r k) = Finset.univ.sup (fun k : Fin 512 => k0_pay14 (F := Ideal) n c (ix2 r k))
        then BitVec.ofNat 32 k.val else BitVec.ofNat 32 512 := by
  rw [← pay15_at n c r 0]
  unfold k0_pay16
  generalize k0_pay15 (F := Ideal) n c = w
  generalize k0_pay14 (F := Ideal) n c = v
  pointwise

theorem pay1_at (v : IVec S576x512 32) (r : Fin 576) :
    k0_pay1 v (ix1 r) = Finset.univ.fold IntOp.minsi 2147483647#32 (fun k : Fin 512 => v (ix2 r k)) := by
  pointwise [k0_pay1]

theorem pay2_at (v : IVec S576x512 32) (a b : Fin 1) (r : Fin 576) : k0_pay2 v (ix3 a b r) = k0_pay1 v (ix1 r) := by
  unfold k0_pay2
  pointwise

theorem pay3_at (x : FVec Ideal S576x512 .f32) (mx : FVec Ideal S576x1 .f32) (v : IVec S576x512 32) (a b : Fin 1) (r : Fin 576) :
    k0_pay3 (F := Ideal) x mx (iota .tc S576x512 32 [1] iota_S576x512_d1_w32) v (ix3 a b r)
      = mx (ix2 r 0) - Finset.univ.sup (fun k : Fin 512 => if BitVec.ofNat 32 k.val = k0_pay1 v (ix1 r) then ⊥ else x (ix2 r k)) := by
  unfold k0_pay3
  generalize k0_pay1 v = w
  pointwise [ninf, neg_big]
  refine congrArg (HSub.hSub _) ((fold_max_eq_sup _ rfl _).trans (congrArg _ (funext fun k => ?_)))
  exact select_eqi _ _ _ _

theorem pay4_at (x : EReal) (y : S1x1.Idx) : k0_pay4 (F := Ideal) x y = x := by
  pointwise [k0_pay4]
theorem pay5_at (x : EReal) (v : FVec Ideal S1x1 .f32) (y : S1x1.Idx) : k0_pay5 (F := Ideal) x v y = v y + x := by
  pointwise [k0_pay5]

end Cert.KernelIdeal.Hand

end
-- ==== Proof.Least.lean ====
/- The position of a row's least element, and the row's two greatest elements: facts about the folds and the sort the programs compute them by. -/
module

public import proofs.«01_k».proof.Proof.Math
public import Idealize.ShloMosaic.Lib.SortFacts
public import Idealize.ShloMosaic.Lib.SortNet.Extract

@[expose] public section

set_option maxRecDepth 16384

noncomputable section

open Idealize.ShloMosaic

namespace Cert.Hand

/-- Position `k` holds a greatest element of the row, and no earlier position does. -/
def Top {n : ℕ} (f : Fin n → EReal) (k : Fin n) : Prop := ∀ j, f j < f k ∨ (f j = f k ∧ k ≤ j)

theorem Top.le {n : ℕ} {f : Fin n → EReal} {k : Fin n} (h : Top f k) (j : Fin n) : f j ≤ f k :=
  (h j).elim le_of_lt fun h => h.1.le

theorem Top.sup {n : ℕ} {f : Fin n → EReal} {k : Fin n} (h : Top f k) : Finset.univ.sup f = f k :=
  le_antisymm (Finset.sup_le fun j _ => h.le j) (Finset.le_sup (f := f) (Finset.mem_univ k))

theorem exists_top {n : ℕ} (hn : 0 < n) (f : Fin n → EReal) : ∃ k, Top f k := by
  classical
  haveI : Nonempty (Fin n) := ⟨⟨0, hn⟩⟩
  obtain ⟨a, -, ha⟩ := Finset.exists_max_image Finset.univ f Finset.univ_nonempty
  have hne : (Finset.univ.filter fun k => f k = f a).Nonempty := ⟨a, by simp⟩
  have hm := (Finset.mem_filter.mp (Finset.min'_mem _ hne)).2
  refine ⟨(Finset.univ.filter fun k => f k = f a).min' hne, fun j => ?_⟩
  rcases (ha j (Finset.mem_univ j)).lt_or_eq with h | h
  · exact Or.inl (hm.symm ▸ h)
  · exact Or.inr ⟨h.trans hm.symm, Finset.min'_le _ j (Finset.mem_filter.mpr ⟨Finset.mem_univ j, h⟩)⟩

/-- A fold that keeps the element with the smaller key ends on the initial element or on one of the list's, with a key no greater than any. -/
theorem fold_least {α κ : Type} [LinearOrder κ] (key : α → κ) (g : α → α → α) (hg : ∀ a b, g a b = if key a < key b then a else b) :
    ∀ (l : List α) (a : α), (l.foldl g a = a ∨ l.foldl g a ∈ l) ∧ key (l.foldl g a) ≤ key a ∧ ∀ p ∈ l, key (l.foldl g a) ≤ key p
  | [], a => ⟨Or.inl rfl, le_rfl, by simp⟩
  | b :: l, a => by
    obtain ⟨h1, h2, h3⟩ := fold_least key g hg l (g a b)
    simp only [List.foldl_cons]
    have ha : key (g a b) ≤ key a := by rw [hg]; split_ifs with h; exacts [le_rfl, not_lt.mp h]
    have hb : key (g a b) ≤ key b := by rw [hg]; split_ifs with h; exacts [h.le, le_rfl]
    refine ⟨?_, h2.trans ha, ?_⟩
    · rcases h1 with h1 | h1
      · rw [h1, hg]; split_ifs
        · exact Or.inl rfl
        · exact Or.inr (by simp)
      · exact Or.inr (List.mem_cons_of_mem _ h1)
    · intro p hp
      rcases List.mem_cons.mp hp with rfl | hp
      exacts [h2.trans hb, h3 p hp]

/-- The smaller of two words, folded over a finite set: below every element, and one of them or the initial word. -/
theorem fold_minsi {n : ℕ} (b : BitVec 32) (f : Fin n → BitVec 32) (s : Finset (Fin n)) :
    (s.fold IntOp.minsi b f = b ∨ ∃ k ∈ s, s.fold IntOp.minsi b f = f k) ∧ ∀ k ∈ s, (s.fold IntOp.minsi b f).toInt ≤ (f k).toInt := by
  classical
  induction s using Finset.induction_on with
  | empty => simp
  | insert a s ha ih =>
    obtain ⟨h1, h2⟩ := ih
    rw [Finset.fold_insert ha]
    have hm := SortNet.toInt_minsi (f a) (s.fold IntOp.minsi b f)
    have hc : IntOp.minsi (f a) (s.fold IntOp.minsi b f) = f a ∨ IntOp.minsi (f a) (s.fold IntOp.minsi b f) = s.fold IntOp.minsi b f := by
      show (if _ then f a else _) = _ ∨ (if _ then f a else _) = _
      split_ifs
      exacts [Or.inl rfl, Or.inr rfl]
    refine ⟨?_, ?_⟩
    · rcases hc with hc | hc
      · exact Or.inr ⟨a, Finset.mem_insert_self _ _, hc⟩
      · rcases h1 with h1 | ⟨k, hk, h1⟩
        · exact Or.inl (hc.trans h1)
        · exact Or.inr ⟨k, Finset.mem_insert_of_mem hk, hc.trans h1⟩
    · intro k hk
      rw [hm]
      rcases Finset.mem_insert.mp hk with rfl | hk
      exacts [min_le_left _ _, (min_le_right _ _).trans (h2 k hk)]

theorem toInt_ofNat (k : ℕ) (h : k < 1024) : (BitVec.ofNat 32 k).toInt = (k : ℤ) := by
  rw [BitVec.toInt_eq_toNat_of_lt (by rw [BitVec.toNat_ofNat]; omega), BitVec.toNat_ofNat]
  omega

/-- The smallest position among those that hold the row's greatest element. -/
theorem minsi_top (f : Fin 512 → EReal) (k : Fin 512) (h : Top f k) :
    Finset.univ.fold IntOp.minsi 2147483647#32 (fun j : Fin 512 => if f j = Finset.univ.sup f then BitVec.ofNat 32 j.val else BitVec.ofNat 32 512)
      = BitVec.ofNat 32 k.val := by
  have hk := k.isLt
  obtain ⟨h1, h2⟩ := fold_minsi 2147483647#32 (fun j : Fin 512 => if f j = Finset.univ.sup f then BitVec.ofNat 32 j.val else BitVec.ofNat 32 512) Finset.univ
  have h3 := h2 k (Finset.mem_univ k)
  rw [h.sup] at h1 h3 ⊢
  beta_reduce at h1 h3
  rw [if_pos rfl] at h3
  rw [toInt_ofNat _ (by omega)] at h3
  rcases h1 with h1 | ⟨j, -, h1⟩
  · rw [h1, show (2147483647#32).toInt = 2147483647 from by decide] at h3; omega
  · have hj := j.isLt
    by_cases e : f j = f k
    · rw [if_pos e] at h1
      rw [h1, toInt_ofNat _ (by omega)] at h3
      rcases h j with h | ⟨-, h⟩
      · exact absurd e h.ne
      · have h' : k.val ≤ j.val := h
        exact h1.trans (congrArg (BitVec.ofNat 32) (by omega))
    · rw [if_neg e] at h1
      rw [h1, toInt_ofNat _ (by omega)] at h3; omega

/-- The greatest of the row's elements at positions other than `a`. -/
def second {n : ℕ} (f : Fin n → EReal) (a : Fin n) : EReal := Finset.univ.sup fun k => if k = a then ⊥ else f k

theorem second_le {n : ℕ} (f : Fin n → EReal) (a b : Fin n) (ha : ∀ k, f k ≤ f a) (hb : ∀ k, f k ≤ f b) : second f a ≤ second f b := by
  by_cases e : a = b
  · rw [e]
  refine Finset.sup_le fun k _ => ?_
  split_ifs
  · exact bot_le
  · refine (hb k).trans ((hb a |> fun _ => ha b).trans ?_)
    have := Finset.le_sup (f := fun k => if k = b then ⊥ else f k) (Finset.mem_univ a)
    rwa [if_neg e] at this

theorem second_eq {n : ℕ} (f : Fin n → EReal) (a b : Fin n) (ha : ∀ k, f k ≤ f a) (hb : ∀ k, f k ≤ f b) : second f a = second f b :=
  le_antisymm (second_le f a b ha hb) (second_le f b a hb ha)

/-- The first two places of a row sorted with the greater first hold the greatest element and the greatest of the others. -/
theorem sorted_two {n : ℕ} (f : Fin n → EReal) (σ : Fin n → Fin n) (hs : Function.Surjective σ) (hi : Function.Injective σ)
    (ho : ∀ i j, i < j → f (σ j) ≤ f (σ i)) (z o : Fin n) (hz : z.val = 0) (h1 : o.val = 1) (k : Fin n) (hk : Top f k) :
    f (σ z) = f k ∧ f (σ o) = second f k := by
  have hmax : ∀ j, f j ≤ f (σ z) := fun j => by
    obtain ⟨i, rfl⟩ := hs j
    by_cases e : i = z
    · rw [e]
    · exact ho _ _ (Fin.lt_def.mpr (by have : i.val ≠ z.val := fun h => e (Fin.ext h); omega))
  refine ⟨le_antisymm (hk.le _) (hmax _), ?_⟩
  rw [second_eq f k (σ z) hk.le hmax]
  refine le_antisymm ?_ (Finset.sup_le fun j _ => ?_)
  · have := Finset.le_sup (f := fun k => if k = σ z then ⊥ else f k) (Finset.mem_univ (σ o))
    rwa [if_neg (fun h => by have := congrArg Fin.val (hi h); omega)] at this
  · split_ifs with e
    · exact bot_le
    · obtain ⟨i, rfl⟩ := hs j
      by_cases e1 : i = o
      · rw [e1]
      · refine ho _ _ (Fin.lt_def.mpr ?_)
        have a1 : i.val ≠ o.val := fun h => e1 (Fin.ext h)
        have a2 : i.val ≠ z.val := fun h => e (congrArg σ (Fin.ext h))
        omega

end Cert.Hand

end
-- ==== Proof.Ref1.lean ====
/- The first reference's stages, read at an index. -/
module

public import proofs.«01_k».proof.Proof.Math
public import proofs.«01_k».proof.Proof.RefOps

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.Hand

theorem rTok_at (X : FVec Ideal S16x3x384x384 .f32) (b : Fin 16) (t : Fin 576) (k : Fin 768) :
    rTok (F := Ideal) X (ix3 b t k)
      = X (ix4 b (⟨k.val / 256, by omega⟩ : Fin 3) (⟨t.val / 24 * 16 + k.val / 16 % 16, by omega⟩ : Fin 384)
          (⟨t.val % 24 * 16 + k.val % 16, by omega⟩ : Fin 384)) := by
  pointwise [rTok]

theorem rP_at (T : FVec Ideal S16x576x768 .f32) (Wp : FVec Ideal S768x384 .f32) (b : Fin 16) (j : Fin 384) (p q : Fin 24) :
    rP (F := Ideal) T Wp (ix4 b j p q)
      = feat (fun k => T (ix3 b (⟨p.val * 24 + q.val, by omega⟩ : Fin 576) k)) (fun k j => Wp (ix2 k j)) j := by
  pointwise [rP]
  rfl

theorem rQ_at (v : FVec Ideal S16x384x24x24 .f32) (b : Fin 16) (j : Fin 384) (p q : Fin 24) :
    rQ (F := Ideal) v (ix4 b p q j) = v (ix4 b j p q) := by
  pointwise [rQ]

theorem rH_at (f : FVec Ideal S16x24x24x384 .f32) (A : FVec Ideal S384x384 .f32) (B C : FVec Ideal S384x64 .f32)
    (b : Fin 16) (p q : Fin 24) (o : Fin 64) :
    rH (F := Ideal) f A B C (ix4 b p q o)
      = head (fun j => f (ix4 b p q j)) (fun i j => A (ix2 i j)) (fun j o => B (ix2 j o)) (fun j o => C (ix2 j o)) o := by
  pointwise [rH]
  rfl

theorem rMix1_at (e w : FVec Ideal S384x384 .f32) (i j : Fin 384) :
    rMix1 (F := Ideal) e w (ix2 i j) = mix (e (ix2 i j)) (w (ix2 i j)) := by
  pointwise [rMix1]
  rfl
theorem rMix2_at (e w : FVec Ideal S384x64 .f32) (i : Fin 384) (j : Fin 64) :
    rMix2 (F := Ideal) e w (ix2 i j) = mix (e (ix2 i j)) (w (ix2 i j)) := by
  pointwise [rMix2]
  rfl

theorem rV_at (h : FVec Ideal S16x24x24x64 .f32) (b : Fin 16) (o : Fin 64) (p q : Fin 24) :
    rV (F := Ideal) h (ix4 b o p q) = h (ix4 b p q o) := by
  pointwise [rV]

theorem rO_at (v : FVec Ideal S16x64x24x24 .f32) (b : Fin 16) (o : Fin 64) (t : Fin 576) :
    rO (F := Ideal) v (ix3 b o t) = v (ix4 b o (⟨t.val / 24, by omega⟩ : Fin 24) (⟨t.val % 24, by omega⟩ : Fin 24)) := by
  pointwise [rO]

theorem rZ_at (v : FVec Ideal S16x64x24x24 .f32) (n : Fin 9216) (o : Fin 64) :
    rZ (F := Ideal) v (ix2 n o) = v (ix4 (⟨n.val / 576, by omega⟩ : Fin 16) o (⟨n.val / 24 % 24, by omega⟩ : Fin 24) (⟨n.val % 24, by omega⟩ : Fin 24)) := by
  pointwise [rZ]

theorem rU_at (n : FVec Ideal S9216x64 .f32) (b : Fin 16) (o : Fin 64) (p q : Fin 24) :
    rU (F := Ideal) n (ix4 b o p q) = n (ix2 (⟨b.val * 576 + p.val * 24 + q.val, by omega⟩ : Fin 9216) o) := by
  refine (rV_at _ b o p q).trans ?_
  pointwise

theorem rN_at (z : FVec Ideal S9216x64 .f32) (n : Fin 9216) (d : Fin 64) :
    rN (F := Ideal) z (ix2 n d) = nrow (fun d => z (ix2 n d)) d := by
  pointwise [rN]
  rfl
theorem rC_at (z : FVec Ideal S512x64 .f32) (n : Fin 512) (d : Fin 64) :
    rC (F := Ideal) z (ix2 n d) = nrow (fun d => z (ix2 n d)) d := by
  pointwise [rC]
  rfl

theorem rD_at (n : FVec Ideal S9216x64 .f32) (cn : FVec Ideal S512x64 .f32) (r : Fin 9216) (k : Fin 512) :
    rD (F := Ideal) n cn (ix2 r k) = sq (fun d => n (ix2 r d)) (fun d => cn (ix2 k d)) := by
  pointwise [rD]
  rfl

theorem n589824 : Ideal.ofBits .f32 0x49100000#32 = ((589824 : ℝ) : EReal) := by
  simp [Ideal.ofBits, Ideal.ieee, -EReal.coe_mul]; norm_num

theorem rM_at (a b : FVec Ideal S9216x64 .f32) (y : S_.Idx) :
    rM (F := Ideal) a b y = (∑ n : Fin 9216, ∑ d : Fin 64, (a (ix2 n d) - b (ix2 n d)) * (a (ix2 n d) - b (ix2 n d))) * (((589824 : ℝ)⁻¹ : ℝ) : EReal) := by
  pointwise [rM, n589824]
  rw [Ideal.div_coe (by norm_num), one_div]

end Cert.ReferenceIdeal.Hand

end
-- ==== Proof.RefTop.lean ====
/- The first reference's nearest-centroid index and margin, read at an index. -/
module

public import proofs.«01_k».proof.Proof.Least
public import proofs.«01_k».proof.Proof.RefOps

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.Hand

/-- The order the reducer keeps the smaller of: by value, then by position. -/
def key (p : EReal × BitVec 32) : EReal ×ₗ ℤ := toLex (p.1, p.2.toInt)

theorem key_lt (a b : EReal × BitVec 32) : key a < key b ↔ a.1 < b.1 ∨ (a.1 = b.1 ∧ a.2.toInt < b.2.toInt) := Prod.Lex.lt_iff
theorem key_le (a b : EReal × BitVec 32) : key a ≤ key b ↔ a.1 < b.1 ∨ (a.1 = b.1 ∧ a.2.toInt ≤ b.2.toInt) := Prod.Lex.le_iff

theorem reducer_eq (a b : EReal × BitVec 32) :
    reducer_argmin_f32_i32 (F := Ideal) a b = if key a < key b then a else b := by
  obtain ⟨a, i⟩ := a
  obtain ⟨b, j⟩ := b
  have h1 : FloatOps.cmpf (F := Ideal) (φ := .f32) .olt a b = BitVec.ofBool (decide (a < b)) := rfl
  have h2 : FloatOps.cmpf (F := Ideal) (φ := .f32) .une a a = BitVec.ofBool (decide (a ≠ a)) := rfl
  have h3 : FloatOps.cmpf (F := Ideal) (φ := .f32) .oeq a b = BitVec.ofBool (decide (a = b)) := rfl
  have h4 : IntOp.cmpi .slt i j = BitVec.ofBool (decide (i.toInt < j.toInt)) := rfl
  simp only [reducer_argmin_f32_i32, key_lt]
  rw [h1, h2, h3, h4]
  rcases lt_trichotomy a b with h | h | h
  · simp [h, h.ne, IntOp.ori, IntOp.andi, Scalar.select]
  · subst h
    by_cases h : i.toInt < j.toInt <;> simp [h, IntOp.ori, IntOp.andi, Scalar.select]
  · simp [h, h.ne', h.not_gt, IntOp.ori, IntOp.andi, Scalar.select]

theorem pinf : Ideal.ofBits .f32 0x7F800000#32 = (⊤ : EReal) := by
  simp [Ideal.ofBits, Ideal.ieee]

theorem drop_ix2 (r : Fin 9216) (k : Fin 512) : reducesTo_S9216x512_S9216_d1.drop (ix2 r k) = ix1 r := by
  funext b; fin_cases b; rfl

theorem of_drop (r : Fin 9216) (i : S9216x512.Idx) (h : reducesTo_S9216x512_S9216_d1.drop i = ix1 r) : ∃ k : Fin 512, i = ix2 r k := by
  refine ⟨i 1, ?_⟩
  funext b
  fin_cases b
  · exact congrFun h 0
  · rfl

theorem reduce_least {s t u : Shape} {axes : List (Fin s.rank)} (h : s.ReducesTo axes t) (hu : 0 < u.numel)
    (f : EReal × BitVec 32 → EReal × BitVec 32 → EReal × BitVec 32) (hf : ∀ a b, f a b = if key a < key b then a else b)
    (x : s.Idx → EReal) (y : s.Idx → BitVec 32) (ix : u.Idx → EReal) (iy : u.Idx → BitVec 32) (j : t.Idx) (i0 : s.Idx) (h0 : h.drop i0 = j)
    (htop : ix (Shape.Idx.first hu) = ⊤) (hfin : x i0 < ⊤) :
    ∃ i : s.Idx, h.drop i = j ∧ Host.reduce2 f x y ix iy h hu j = (x i, y i) ∧ key (x i, y i) ≤ key (x i0, y i0) := by
  unfold Host.reduce2
  generalize hl : ((List.finRange s.numel).filter fun n => h.drop (s.rowMajor.symm n) = j) = l
  have e := List.foldl_map (f := fun n => (x (s.rowMajor.symm n), y (s.rowMajor.symm n)))
    (g := f) (l := l) (init := (ix (Shape.Idx.first hu), iy (Shape.Idx.first hu)))
  obtain ⟨h1, -, h3⟩ := fold_least key f hf (l.map fun n => (x (s.rowMajor.symm n), y (s.rowMajor.symm n)))
    (ix (Shape.Idx.first hu), iy (Shape.Idx.first hu))
  rw [e] at h1 h3
  have hmem : (x i0, y i0) ∈ l.map fun n => (x (s.rowMajor.symm n), y (s.rowMajor.symm n)) := by
    refine List.mem_map.mpr ⟨s.rowMajor i0, ?_, ?_⟩
    · rw [← hl]
      refine List.mem_filter.mpr ⟨List.mem_finRange _, ?_⟩
      rw [Equiv.symm_apply_apply]
      exact decide_eq_true h0
    · rw [Equiv.symm_apply_apply]
  have hle := h3 _ hmem
  rcases h1 with h1 | h1
  · rw [h1] at hle
    rcases (key_le _ _).mp hle with h | ⟨h, -⟩
    · exact absurd h (not_lt.mpr (htop ▸ le_top))
    · exact absurd (htop.symm.trans h) hfin.ne'
  · obtain ⟨n, hn, hn'⟩ := List.mem_map.mp h1
    rw [← hl] at hn
    rw [← hn'] at hle
    exact ⟨_, of_decide_eq_true (List.mem_filter.mp hn).2, hn'.symm, hle⟩

theorem arg_least {s t u : Shape} {axes : List (Fin s.rank)} (h : s.ReducesTo axes t) (hu : 0 < u.numel)
    (x : FVec Ideal s .f32) (y : IVec s 32) (ix : FVec Ideal u .f32) (iy : IVec u 32) (j : t.Idx) (i0 : s.Idx) (h0 : h.drop i0 = j)
    (htop : ix (Shape.Idx.first hu) = (⊤ : EReal)) (hfin : x i0 < (⊤ : EReal)) :
    ∃ i : s.Idx, h.drop i = j ∧ (Host.argReduce (reducer_argmin_f32_i32 (F := Ideal)) x y ix iy h hu j).2 = y i ∧ key (x i, y i) ≤ key (x i0, y i0) := by
  rw [Ideal.argReduce_eq_reduce2]
  obtain ⟨i, h1, h2, h3⟩ := reduce_least h hu (reducer_argmin_f32_i32 (F := Ideal)) reducer_eq x y ix iy j i0 h0 htop hfin
  exact ⟨i, h1, congrArg Prod.snd h2, h3⟩

theorem iota_at (r : Fin 9216) (k : Fin 512) : iotaInDim S9216x512 32 1 (ix2 r k) = BitVec.ofNat 32 k.val := rfl

theorem fn_arg2_eq {F : FTy → Type} [FloatOps F] :
    fn_arg2 (F := F) = fun x y u v j => (Host.argReduce (reducer_argmin_f32_i32 (F := F)) x y u v reducesTo_S9216x512_S9216_d1 h_S_ j).2 := rfl

theorem fn_arg2_of {F : FTy → Type} [FloatOps F] (x : FVec F S9216x512 .f32) (y : IVec S9216x512 32) (u : FVec F S_ .f32) (v : IVec S_ 32) (j : S9216.Idx)
    (k : BitVec 32) (h : (Host.argReduce (reducer_argmin_f32_i32 (F := F)) x y u v reducesTo_S9216x512_S9216_d1 h_S_ j).2 = k) :
    fn_arg2 (F := F) x y u v j = k := by
  rw [fn_arg2_eq]
  exact h

theorem arg_at (d : FVec Ideal S9216x512 .f32) (r : Fin 9216) (k : Fin 512) (hd : IsR (d (ix2 r k))) (hk : Top (fun k => -(d (ix2 r k))) k)
    (u : FVec Ideal S_ .f32) (hu : u (Shape.Idx.first h_S_) = (⊤ : EReal)) (v : IVec S_ 32) :
    fn_arg2 (F := Ideal) d (iotaInDim S9216x512 32 1) u v (ix1 r) = BitVec.ofNat 32 k.val := by
  obtain ⟨x, hx⟩ := hd
  obtain ⟨i, hi, e, hle⟩ := arg_least reducesTo_S9216x512_S9216_d1 h_S_ d (iotaInDim S9216x512 32 1) u v (ix1 r) (ix2 r k) (drop_ix2 r k) hu
    (hx ▸ EReal.coe_lt_top x)
  refine fn_arg2_of _ _ _ _ _ _ (e.trans ?_)
  obtain ⟨j, rfl⟩ := of_drop r i hi
  rw [iota_at, iota_at, key_le] at hle
  rw [iota_at]
  have hkk := k.isLt
  have hjj := j.isLt
  simp only at hle
  rw [toInt_ofNat _ (by omega), toInt_ofNat _ (by omega)] at hle
  refine congrArg (BitVec.ofNat 32) ?_
  rcases hk j with h | ⟨h, h'⟩
  · have := EReal.neg_lt_neg_iff.mp h
    rcases hle with h | ⟨h, -⟩
    · exact absurd h this.not_gt
    · exact absurd h this.ne'
  · have he : d (ix2 r j) = d (ix2 r k) := neg_injective h
    rcases hle with h | ⟨-, h⟩
    · exact absurd he h.ne
    · have h' : k.val ≤ j.val := h'
      omega

theorem rI_at (f : FVec Ideal S9216x512 .f32 → IVec S9216x512 32 → FVec Ideal S_ .f32 → IVec S_ 32 → IVec S9216 32) (d : FVec Ideal S9216x512 .f32)
    (b : Fin 16) (z : Fin 1) (t : Fin 576) :
    rI (F := Ideal) f d (ix3 b z t)
      = f d (iotaInDim S9216x512 32 1) (constant S_ .f32 0x7F800000#32) (constantI S_ 32 0#32) (ix1 (⟨b.val * 576 + t.val, by omega⟩ : Fin 9216)) := by
  unfold rI
  generalize f d (iotaInDim S9216x512 32 1) (constant S_ .f32 0x7F800000#32) (constantI S_ 32 0#32) = w
  pointwise

theorem rG_at (w : FVec Ideal S9216x2 .f32) (b : Fin 16) (z : Fin 1) (t : Fin 576) :
    rG (F := Ideal) w (ix3 b z t) = w (ix2 (⟨b.val * 576 + t.val, by omega⟩ : Fin 9216) 0) - w (ix2 (⟨b.val * 576 + t.val, by omega⟩ : Fin 9216) 1) := by
  pointwise [rG]

/-- The order in which the sort takes row `r`. -/
def perm (d : FVec Ideal S9216x512 .f32) (r : Fin 9216) : Fin 512 → Fin 512 :=
  sortedFrom fun k k' => FloatOps.cmpfTotal (F := Ideal) (φ := .f32) .gt (-(d (ix2 r k))) (-(d (ix2 r k'))) == 1#1

theorem gt_iff (a b : EReal) : (FloatOps.cmpfTotal (F := Ideal) (φ := .f32) .gt a b == 1#1) = decide (b < a) := by
  have h : FloatOps.cmpfTotal (F := Ideal) (φ := .f32) .gt a b = BitVec.ofBool (decide (b < a)) := rfl
  rw [h]
  cases decide (b < a) <;> rfl

theorem top_comp {s t : Shape} (d : Fin s.rank) (gt : EReal → EReal → BitVec 1) (x : s.Idx → EReal) (h : s.Slices (fun _ => 0) t) (j : t.Idx)
    (i : s.Idx) (hi : ∀ a, (j (Fin.cast h.1.symm a)).val = (i a).val) :
    (Host.topK t d.val gt x h).1 j
      = x (i.along d (sortedFrom (fun k k' => gt (x (i.along d k)) (x (i.along d k')) == 1#1) (i d))) := by
  have e : (fun a : Fin s.rank => (⟨0 + (j (Fin.cast h.1.symm a)).val, Nat.lt_of_lt_of_le (Nat.add_lt_add_left (j _).isLt _) (h.2 a)⟩ : Fin (s.size a))) = i :=
    funext fun a => Fin.ext ((Nat.zero_add _).trans (hi a))
  rw [← e]
  unfold Host.topK Host.sort2
  simp only [d.isLt, dite_true]
  rfl

theorem along_ix2 (r : Fin 9216) (z k : Fin 512) : Shape.Idx.along (s := S9216x512) (ix2 r z) 1 k = ix2 r k := by
  funext b; fin_cases b <;> rfl

theorem negf_at (d : FVec Ideal S9216x512 .f32) (i : S9216x512.Idx) : Host.negf d i = -(d i : EReal) := rfl

theorem rT_at (d : FVec Ideal S9216x512 .f32) (r : Fin 9216) (z : Fin 2) :
    rT (F := Ideal) d (ix2 r z) = -(d (ix2 r (perm d r (⟨z.val, by omega⟩ : Fin 512)))) := by
  unfold rT
  refine (top_comp (s := S9216x512) (t := S9216x2) 1 (FloatOps.cmpfTotal (F := Ideal) (φ := .f32) .gt) (Host.negf d) sliceFits_S9216x512_S9216x2 (ix2 r z)
    (ix2 r (⟨z.val, by omega⟩ : Fin 512)) (fun a => ?_)).trans ?_
  · fin_cases a <;> rfl
  · refine congrArg (fun i => -(d i : EReal)) ((along_ix2 r _ _).trans (congrArg (ix2 r) ?_))
    unfold perm
    refine congrArg (fun R => sortedFrom (n := 512) R (⟨z.val, by omega⟩ : Fin 512)) (funext fun k => funext fun k' => ?_)
    exact congrArg₂ (fun a b => FloatOps.cmpfTotal (F := Ideal) (φ := .f32) .gt (-(d a)) (-(d b)) == 1#1) (along_ix2 r _ k) (along_ix2 r _ k')

theorem top_two (d : FVec Ideal S9216x512 .f32) (r : Fin 9216) (k : Fin 512) (hk : Top (fun k => -(d (ix2 r k))) k) :
    rT (F := Ideal) d (ix2 r 0) = -(d (ix2 r k)) ∧ rT (F := Ideal) d (ix2 r 1) = second (fun k => -(d (ix2 r k))) k := by
  rw [rT_at, rT_at]
  refine sorted_two (fun k => -(d (ix2 r k))) (perm d r) (sortedFrom_surjective _) (sortedFrom_injective _) (fun i j hij => ?_) _ _ rfl rfl k hk
  have := sortedFrom_noInversion (fun k k' => FloatOps.cmpfTotal (F := Ideal) (φ := .f32) .gt (-(d (ix2 r k))) (-(d (ix2 r k'))) == 1#1)
    (fun k k' => FloatOps.cmpfTotal (F := Ideal) (φ := .f32) .gt (-(d (ix2 r k))) (-(d (ix2 r k'))) == 1#1)
    (fun a b h => by rw [gt_iff] at h ⊢; exact decide_eq_false (not_lt.mpr (of_decide_eq_true h).le))
    (fun a b h => h)
    (fun a b c h h' => by
      rw [gt_iff] at h h' ⊢
      exact decide_eq_false (not_lt.mpr ((not_lt.mp (of_decide_eq_false h)).trans (not_lt.mp (of_decide_eq_false h'))))) i j hij
  rw [gt_iff] at this
  exact not_lt.mp (of_decide_eq_false this)

end Cert.ReferenceIdeal.Hand

end
-- ==== Proof.RefVal1.lean ====
/- The first reference's results, read at an index as functions of its arguments. -/
module

public import proofs.«01_k».proof.Proof.Ref1
public import proofs.«01_k».proof.Proof.RefTop
public import proofs.«01_k».proof.Proof.RefRun

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.Hand

/-- The patch at place `t` of image `b`, as a row. -/
def trow (X : FVec Ideal S16x3x384x384 .f32) (b : Fin 16) (t : Fin 576) (k : Fin 768) : EReal :=
  X (ix4 b (⟨k.val / 256, by omega⟩ : Fin 3) (⟨t.val / 24 * 16 + k.val / 16 % 16, by omega⟩ : Fin 384)
      (⟨t.val % 24 * 16 + k.val % 16, by omega⟩ : Fin 384))

/-- The online head's row at place `t` of image `b`. -/
def zOn (X : FVec Ideal S16x3x384x384 .f32) (Wp : FVec Ideal S768x384 .f32) (A : FVec Ideal S384x384 .f32) (B C : FVec Ideal S384x64 .f32)
    (b : Fin 16) (t : Fin 576) (o : Fin 64) : EReal :=
  head (feat (trow X b t) (fun k j => Wp (ix2 k j))) (fun i j => A (ix2 i j)) (fun j o => B (ix2 j o)) (fun j o => C (ix2 j o)) o

/-- The averaged head's row at place `t` of image `b`. -/
def zAv (X : FVec Ideal S16x3x384x384 .f32) (Wp : FVec Ideal S768x384 .f32) (A : FVec Ideal S384x384 .f32) (B C : FVec Ideal S384x64 .f32)
    (A' : FVec Ideal S384x384 .f32) (B' C' : FVec Ideal S384x64 .f32) (b : Fin 16) (t : Fin 576) (o : Fin 64) : EReal :=
  head (feat (trow X b t) (fun k j => Wp (ix2 k j))) (fun i j => mix (A' (ix2 i j)) (A (ix2 i j)))
    (fun j o => mix (B' (ix2 j o)) (B (ix2 j o))) (fun j o => mix (C' (ix2 j o)) (C (ix2 j o))) o

theorem rF_at (X : FVec Ideal S16x3x384x384 .f32) (Wp : FVec Ideal S768x384 .f32) (b : Fin 16) (j : Fin 384) (p q : Fin 24) (t : Fin 576)
    (ht : t.val = p.val * 24 + q.val) :
    rF (F := Ideal) (rTok X) Wp (ix4 b p q j) = feat (trow X b t) (fun k j => Wp (ix2 k j)) j := by
  refine (rQ_at _ b j p q).trans ((rP_at _ Wp b j p q).trans ?_)
  refine congrArg (fun f => feat f _ j) (funext fun k => ?_)
  refine (rTok_at X b _ k).trans ?_
  unfold trow
  simp only [ht]

section
variable (X Y : FVec Ideal S16x3x384x384 .f32) (Wp : FVec Ideal S768x384 .f32) (A : FVec Ideal S384x384 .f32) (B C : FVec Ideal S384x64 .f32)
  (A' : FVec Ideal S384x384 .f32) (B' C' : FVec Ideal S384x64 .f32) (K : FVec Ideal S512x64 .f32)

theorem map1_at (b : Fin 16) (o : Fin 64) (p q : Fin 24) (t : Fin 576) (ht : t.val = p.val * 24 + q.val) :
    map1 (F := Ideal) X Wp A B C (ix4 b o p q) = zOn X Wp A B C b t o := by
  refine (rV_at _ b o p q).trans ((rH_at _ A B C b p q o).trans ?_)
  exact congrArg (fun f => head f _ _ _ o) (funext fun j => rF_at X Wp b j p q t ht)

theorem map2_at (b : Fin 16) (o : Fin 64) (p q : Fin 24) (t : Fin 576) (ht : t.val = p.val * 24 + q.val) :
    map2 (F := Ideal) Y Wp A B C A' B' C' (ix4 b o p q) = zAv Y Wp A B C A' B' C' b t o := by
  refine (rV_at _ b o p q).trans ((rH_at _ _ _ _ b p q o).trans ?_)
  refine (congrArg (fun f => head f _ _ _ o) (funext fun j => rF_at Y Wp b j p q t ht)).trans ?_
  simp only [rMix1_at, rMix2_at]
  rfl

theorem z1_at (b : Fin 16) (o : Fin 64) (t : Fin 576) :
    rO (map1 (F := Ideal) X Wp A B C) (ix3 b o t) = zOn X Wp A B C b t o :=
  (rO_at _ b o t).trans (map1_at X Wp A B C b o _ _ t (by show t.val = t.val / 24 * 24 + t.val % 24; omega))

theorem z2_at (b : Fin 16) (o : Fin 64) (t : Fin 576) :
    rO (map2 (F := Ideal) Y Wp A B C A' B' C') (ix3 b o t) = zAv Y Wp A B C A' B' C' b t o :=
  (rO_at _ b o t).trans (map2_at Y Wp A B C A' B' C' b o _ _ t (by show t.val = t.val / 24 * 24 + t.val % 24; omega))

theorem n1_at (n : Fin 9216) (o : Fin 64) (b : Fin 16) (t : Fin 576) (hn : n.val = b.val * 576 + t.val) :
    rN (rZ (map1 (F := Ideal) X Wp A B C)) (ix2 n o) = nrow (zOn X Wp A B C b t) o := by
  refine (rN_at _ n o).trans (congrArg (fun f => nrow f o) (funext fun d => ?_))
  have ht := t.isLt
  have hb : (⟨n.val / 576, by omega⟩ : Fin 16) = b := Fin.ext (by show n.val / 576 = b.val; omega)
  refine (rZ_at _ n d).trans ?_
  rw [hb]
  exact map1_at X Wp A B C b d _ _ t (by show t.val = n.val / 24 % 24 * 24 + n.val % 24; omega)

theorem n2_at (n : Fin 9216) (o : Fin 64) (b : Fin 16) (t : Fin 576) (hn : n.val = b.val * 576 + t.val) :
    rN (rZ (map2 (F := Ideal) Y Wp A B C A' B' C')) (ix2 n o) = nrow (zAv Y Wp A B C A' B' C' b t) o := by
  refine (rN_at _ n o).trans (congrArg (fun f => nrow f o) (funext fun d => ?_))
  have ht := t.isLt
  have hb : (⟨n.val / 576, by omega⟩ : Fin 16) = b := Fin.ext (by show n.val / 576 = b.val; omega)
  refine (rZ_at _ n d).trans ?_
  rw [hb]
  exact map2_at Y Wp A B C A' B' C' b d _ _ t (by show t.val = n.val / 24 % 24 * 24 + n.val % 24; omega)

theorem nz1_at (b : Fin 16) (o : Fin 64) (t : Fin 576) :
    rO (rU (rN (rZ (map1 (F := Ideal) X Wp A B C)))) (ix3 b o t) = nrow (zOn X Wp A B C b t) o :=
  (rO_at _ b o t).trans ((rU_at _ b o _ _).trans (n1_at X Wp A B C _ o b t (by
    show b.val * 576 + t.val / 24 * 24 + t.val % 24 = b.val * 576 + t.val; omega)))

theorem dist_at (n : Fin 9216) (k : Fin 512) (b : Fin 16) (t : Fin 576) (hn : n.val = b.val * 576 + t.val) :
    rD (rN (rZ (map1 (F := Ideal) X Wp A B C))) (rC K) (ix2 n k) = sq (nrow (zOn X Wp A B C b t)) (nrow (fun d => K (ix2 k d))) := by
  refine (rD_at _ _ n k).trans ?_
  exact congrArg₂ sq (funext fun d => n1_at X Wp A B C n d b t hn) (funext fun d => rC_at K k d)

theorem idx_at (b : Fin 16) (z : Fin 1) (t : Fin 576) (k : Fin 512) (hR : ∀ k, IsR (sq (nrow (zOn X Wp A B C b t)) (nrow (fun d => K (ix2 k d)))))
    (hk : Top (fun k => -(sq (nrow (zOn X Wp A B C b t)) (nrow (fun d => K (ix2 k d))))) k) :
    rI fn_arg2 (rD (rN (rZ (map1 (F := Ideal) X Wp A B C))) (rC K)) (ix3 b z t) = BitVec.ofNat 32 k.val := by
  have e := fun k => dist_at X Wp A B C K (⟨b.val * 576 + t.val, by omega⟩ : Fin 9216) k b t rfl
  refine (rI_at _ _ b z t).trans (arg_at _ _ k (by rw [e]; exact hR k) (by simp only [e]; exact hk) _ pinf _)

theorem gap_at (b : Fin 16) (z : Fin 1) (t : Fin 576) (k : Fin 512)
    (hk : Top (fun k => -(sq (nrow (zOn X Wp A B C b t)) (nrow (fun d => K (ix2 k d))))) k) :
    rG (rT (rD (rN (rZ (map1 (F := Ideal) X Wp A B C))) (rC K))) (ix3 b z t)
      = -(sq (nrow (zOn X Wp A B C b t)) (nrow (fun d => K (ix2 k d))))
        - second (fun k => -(sq (nrow (zOn X Wp A B C b t)) (nrow (fun d => K (ix2 k d))))) k := by
  have e := fun k => dist_at X Wp A B C K (⟨b.val * 576 + t.val, by omega⟩ : Fin 9216) k b t rfl
  obtain ⟨h1, h2⟩ := top_two (rD (rN (rZ (map1 (F := Ideal) X Wp A B C))) (rC K)) (⟨b.val * 576 + t.val, by omega⟩ : Fin 9216) k (by simp only [e]; exact hk)
  refine (rG_at _ b z t).trans ?_
  rw [h1, h2]
  simp only [e]

/-- A scalar as a one-by-one array. -/
def rS (x : FVec Ideal S_ .f32) : FVec Ideal S1x1 .f32 := shapeCast S1x1 x shapeCasts_S_S1x1

/-- The squared differences of row `t` of image `b`, summed. -/
def dev (b : Fin 16) (t : Fin 576) : EReal :=
  ∑ d : Fin 64, (nrow (zOn X Wp A B C b t) d - nrow (zAv Y Wp A B C A' B' C' b t) d) * (nrow (zOn X Wp A B C b t) d - nrow (zAv Y Wp A B C A' B' C' b t) d)

theorem mse_at (y : S1x1.Idx) :
    rS (rM (rN (rZ (map1 (F := Ideal) X Wp A B C))) (rN (rZ (map2 (F := Ideal) Y Wp A B C A' B' C')))) y
      = (∑ n : Fin 9216, dev X Y Wp A B C A' B' C' (⟨n.val / 576, by omega⟩ : Fin 16) (⟨n.val % 576, by omega⟩ : Fin 576)) * (((589824 : ℝ)⁻¹ : ℝ) : EReal) := by
  refine (rM_at _ _ _).trans ?_
  refine congrArg (fun z : EReal => z * (((589824 : ℝ)⁻¹ : ℝ) : EReal)) (Finset.sum_congr rfl fun n _ => Finset.sum_congr rfl fun d _ => ?_)
  have hn : n.val = n.val / 576 * 576 + n.val % 576 := by omega
  rw [n1_at X Wp A B C n d (⟨n.val / 576, by omega⟩ : Fin 16) (⟨n.val % 576, by omega⟩ : Fin 576) hn,
    n2_at Y Wp A B C A' B' C' n d (⟨n.val / 576, by omega⟩ : Fin 16) (⟨n.val % 576, by omega⟩ : Fin 576) hn]

end

end Cert.ReferenceIdeal.Hand

end
-- ==== Proof.Blocks1.lean ====
/- The first region's results: block by block, what the kernel stores is what the reference computes. -/
module

public import proofs.«01_k».proof.Proof.Pure1
public import proofs.«01_k».proof.Proof.Least
public import proofs.«01_k».proof.Proof.RefVal1
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Hand
open Cert.ReferenceIdeal.Hand (trow zOn zAv dev)

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0, 0] ∧ win0_11.index t = ![t.val, 0, 0] ∧ win0_12.index t = ![t.val, 0, 0]
    ∧ win0_13.index t = ![t.val, 0, 0] ∧ win0_14.index t = ![t.val, 0, 0] ∧ win0_15.index t = ![0, 0] :=
  (by decide +kernel : ∀ t : Fin grid0.N, _)

/-- The host's patches, one row per patch over both leading axes. -/
def hTok (X : FVec Ideal S16x3x384x384 .f32) : FVec Ideal S9216x768 .f32 :=
  shapeCast S9216x768 (transpose S16x24x24x3x16x16 [0, 2, 4, 1, 3, 5] (shapeCast S16x3x24x16x24x16 X shapeCasts_S16x3x384x384_S16x3x24x16x24x16)
    transposes_S16x3x24x16x24x16_S16x24x24x3x16x16_0_2_4_1_3_5) shapeCasts_S16x24x24x3x16x16_S9216x768

theorem hTok_at (X : FVec Ideal S16x3x384x384 .f32) (n : Fin 9216) (k : Fin 768) (b : Fin 16) (r : Fin 576) (hn : n.val = b.val * 576 + r.val) :
    hTok X (ix2 n k) = trow X b r k := by
  have hr := r.isLt
  have e1 : n.val / 576 = b.val := by omega
  have e2 : n.val / 24 % 24 = r.val / 24 := by omega
  have e3 : n.val % 24 = r.val % 24 := by omega
  pointwise [hTok]
  unfold trow
  simp only [e1, e2, e3]

theorem iblk0_at (c : Dev nD) (t : Fin cfg0.N) (b : Fin 16) (hb : b.val = t.val) (r : Fin 576) (k : Fin 768) :
    (show FVec Ideal S576x768 .f32 from iblk m c 0 t) (ix2 r k) = trow (m ((c : Thread nD τ).loc main_arg0)) b r k := by
  refine Eq.trans ?_ (hTok_at _ (⟨b.val * 576 + r.val, by omega⟩ : Fin 9216) k b r rfl)
  show iblk m c 0 t (ix2 r k) = _
  blk_simp [iblk, idx t]
  entry_read
  show hTok _ _ = hTok _ _
  blk_ext [idx t]

theorem iblk1_at (c : Dev nD) (t : Fin cfg0.N) (b : Fin 16) (hb : b.val = t.val) (r : Fin 576) (k : Fin 768) :
    (show FVec Ideal S576x768 .f32 from iblk m c 1 t) (ix2 r k) = trow (m ((c : Thread nD τ).loc main_arg1)) b r k := by
  refine Eq.trans ?_ (hTok_at _ (⟨b.val * 576 + r.val, by omega⟩ : Fin 9216) k b r rfl)
  show iblk m c 1 t (ix2 r k) = _
  blk_simp [iblk, idx t]
  entry_read
  show hTok _ _ = hTok _ _
  blk_ext [idx t]

theorem iblk2_at (c : Dev nD) (t : Fin cfg0.N) (k : Fin 768) (d : Fin 384) :
    (show FVec Ideal S768x384 .f32 from iblk m c 2 t) (ix2 k d) = m ((c : Thread nD τ).loc main_arg2) (ix2 k d) := by
  show iblk m c 2 t (ix2 k d) = _
  blk_ext [iblk, V, idx t]
theorem iblk3_at (c : Dev nD) (t : Fin cfg0.N) (k : Fin 384) (d : Fin 384) :
    (show FVec Ideal S384x384 .f32 from iblk m c 3 t) (ix2 k d) = m ((c : Thread nD τ).loc main_arg3) (ix2 k d) := by
  show iblk m c 3 t (ix2 k d) = _
  blk_ext [iblk, V, idx t]
theorem iblk4_at (c : Dev nD) (t : Fin cfg0.N) (k : Fin 384) (d : Fin 64) :
    (show FVec Ideal S384x64 .f32 from iblk m c 4 t) (ix2 k d) = m ((c : Thread nD τ).loc main_arg4) (ix2 k d) := by
  show iblk m c 4 t (ix2 k d) = _
  blk_ext [iblk, V, idx t]
theorem iblk5_at (c : Dev nD) (t : Fin cfg0.N) (k : Fin 384) (d : Fin 64) :
    (show FVec Ideal S384x64 .f32 from iblk m c 5 t) (ix2 k d) = m ((c : Thread nD τ).loc main_arg5) (ix2 k d) := by
  show iblk m c 5 t (ix2 k d) = _
  blk_ext [iblk, V, idx t]
theorem iblk6_at (c : Dev nD) (t : Fin cfg0.N) (k : Fin 384) (d : Fin 384) :
    (show FVec Ideal S384x384 .f32 from iblk m c 6 t) (ix2 k d) = m ((c : Thread nD τ).loc main_arg6) (ix2 k d) := by
  show iblk m c 6 t (ix2 k d) = _
  blk_ext [iblk, V, idx t]
theorem iblk7_at (c : Dev nD) (t : Fin cfg0.N) (k : Fin 384) (d : Fin 64) :
    (show FVec Ideal S384x64 .f32 from iblk m c 7 t) (ix2 k d) = m ((c : Thread nD τ).loc main_arg7) (ix2 k d) := by
  show iblk m c 7 t (ix2 k d) = _
  blk_ext [iblk, V, idx t]
theorem iblk8_at (c : Dev nD) (t : Fin cfg0.N) (k : Fin 384) (d : Fin 64) :
    (show FVec Ideal S384x64 .f32 from iblk m c 8 t) (ix2 k d) = m ((c : Thread nD τ).loc main_arg8) (ix2 k d) := by
  show iblk m c 8 t (ix2 k d) = _
  blk_ext [iblk, V, idx t]
theorem iblk9_at (c : Dev nD) (t : Fin cfg0.N) (k : Fin 512) (d : Fin 64) :
    (show FVec Ideal S512x64 .f32 from iblk m c 9 t) (ix2 k d) = m ((c : Thread nD τ).loc main_arg9) (ix2 k d) := by
  show iblk m c 9 t (ix2 k d) = _
  blk_ext [iblk, V, idx t]

/-! ## The stored values over blocks known by their elements -/

section
variable (X Y : FVec Ideal S16x3x384x384 .f32) (Wp : FVec Ideal S768x384 .f32) (A : FVec Ideal S384x384 .f32) (B C : FVec Ideal S384x64 .f32)
  (A' : FVec Ideal S384x384 .f32) (B' C' : FVec Ideal S384x64 .f32) (K : FVec Ideal S512x64 .f32) (b : Fin 16)

/-- The distances from row `r` to the centroids, negated. -/
def far (r : Fin 576) (k : Fin 512) : EReal := -(Cert.Hand.sq (nrow (zOn X Wp A B C b r)) (nrow (fun d => K (ix2 k d))))

theorem pay7_of (v0 : FVec Ideal S576x768 .f32) (v4 : FVec Ideal S768x384 .f32) (v6 : FVec Ideal S384x384 .f32) (v10 v12 : FVec Ideal S384x64 .f32)
    (h0 : ∀ r k, v0 (ix2 r k) = trow X b r k) (h4 : ∀ i j, v4 (ix2 i j) = Wp (ix2 i j)) (h6 : ∀ i j, v6 (ix2 i j) = A (ix2 i j))
    (h10 : ∀ i j, v10 (ix2 i j) = B (ix2 i j)) (h12 : ∀ i j, v12 (ix2 i j) = C (ix2 i j)) (r : Fin 576) (o : Fin 64) :
    k0_pay7 (F := Ideal) v0 v4 v6 v10 v12 (ix2 r o) = zOn X Wp A B C b r o := by
  rw [pay7_at]
  simp only [h0, h4, h6, h10, h12]
  rfl

theorem pay9_of (v0 : FVec Ideal S576x768 .f32) (v4 : FVec Ideal S768x384 .f32) (v6 : FVec Ideal S384x384 .f32) (v10 v12 : FVec Ideal S384x64 .f32)
    (h0 : ∀ r k, v0 (ix2 r k) = trow X b r k) (h4 : ∀ i j, v4 (ix2 i j) = Wp (ix2 i j)) (h6 : ∀ i j, v6 (ix2 i j) = A (ix2 i j))
    (h10 : ∀ i j, v10 (ix2 i j) = B (ix2 i j)) (h12 : ∀ i j, v12 (ix2 i j) = C (ix2 i j)) (r : Fin 576) (o : Fin 64) :
    k0_pay9 (F := Ideal) v0 v4 v6 v10 v12 (ix2 r o) = nrow (zOn X Wp A B C b r) o := by
  rw [pay9_at]
  exact congrArg (fun f => nrow f o) (funext fun d => pay7_of X Wp A B C b v0 v4 v6 v10 v12 h0 h4 h6 h10 h12 r d)

theorem pay11_of (v2 : FVec Ideal S576x768 .f32) (v31 v34 : FVec Ideal S384x384 .f32) (v38 v41 v45 v48 : FVec Ideal S384x64 .f32) (v52 : FVec Ideal S768x384 .f32)
    (h2 : ∀ r k, v2 (ix2 r k) = trow Y b r k) (h31 : ∀ i j, v31 (ix2 i j) = A' (ix2 i j)) (h34 : ∀ i j, v34 (ix2 i j) = A (ix2 i j))
    (h38 : ∀ i j, v38 (ix2 i j) = B' (ix2 i j)) (h41 : ∀ i j, v41 (ix2 i j) = B (ix2 i j)) (h45 : ∀ i j, v45 (ix2 i j) = C' (ix2 i j))
    (h48 : ∀ i j, v48 (ix2 i j) = C (ix2 i j)) (h52 : ∀ i j, v52 (ix2 i j) = Wp (ix2 i j)) (r : Fin 576) (o : Fin 64) :
    k0_pay11 (F := Ideal) (k0_pay6 v2) v31 v34 v38 v41 v45 v48 v52 (ix2 r o) = zAv Y Wp A B C A' B' C' b r o := by
  rw [pay11_at]
  simp only [pay6_eq, h2, h31, h34, h38, h41, h45, h48, h52]
  rfl

theorem pay14_of (n : FVec Ideal S576x64 .f32) (v79 : FVec Ideal S512x64 .f32) (hn : ∀ r o, n (ix2 r o) = nrow (zOn X Wp A B C b r) o)
    (h79 : ∀ i j, v79 (ix2 i j) = K (ix2 i j)) (r : Fin 576) (k : Fin 512) :
    k0_pay14 (F := Ideal) n v79 (ix2 r k) = far X Wp A B C K b r k := by
  rw [pay14_at]
  simp only [hn, h79]
  exact ng_eq _ _ (fun d => nrow_isR _ _) (fun d => nrow_isR _ _)

theorem pay1_of (n : FVec Ideal S576x64 .f32) (v79 : FVec Ideal S512x64 .f32) (hn : ∀ r o, n (ix2 r o) = nrow (zOn X Wp A B C b r) o)
    (h79 : ∀ i j, v79 (ix2 i j) = K (ix2 i j)) (r : Fin 576) (k : Fin 512) (hk : Top (far X Wp A B C K b r) k) :
    k0_pay1 (k0_pay16 (F := Ideal) n v79) (ix1 r) = BitVec.ofNat 32 k.val := by
  rw [pay1_at]
  refine Eq.trans ?_ (minsi_top (far X Wp A B C K b r) k hk)
  refine congrArg (fun f => Finset.univ.fold IntOp.minsi 2147483647#32 f) (funext fun j => ?_)
  rw [pay16_at]
  simp only [pay14_of X Wp A B C K b n v79 hn h79]

theorem pay3_of (n : FVec Ideal S576x64 .f32) (v79 : FVec Ideal S512x64 .f32) (hn : ∀ r o, n (ix2 r o) = nrow (zOn X Wp A B C b r) o)
    (h79 : ∀ i j, v79 (ix2 i j) = K (ix2 i j)) (a a' : Fin 1) (r : Fin 576) (k : Fin 512) (hk : Top (far X Wp A B C K b r) k) :
    k0_pay3 (F := Ideal) (k0_pay14 n v79) (k0_pay15 n v79) (iota .tc S576x512 32 [1] iota_S576x512_d1_w32) (k0_pay16 n v79) (ix3 a a' r)
      = far X Wp A B C K b r k - second (far X Wp A B C K b r) k := by
  rw [pay3_at, pay1_of X Wp A B C K b n v79 hn h79 r k hk, pay15_at]
  simp only [pay14_of X Wp A B C K b n v79 hn h79]
  refine congrArg₂ (fun x y : EReal => x - y) hk.sup (congrArg _ (funext fun j => ?_))
  have e : (BitVec.ofNat 32 j.val = BitVec.ofNat 32 k.val) ↔ j = k := by
    refine ⟨fun h => Fin.ext ?_, fun h => by rw [h]⟩
    have := congrArg BitVec.toInt h
    have hj := j.isLt
    have hkk := k.isLt
    rw [toInt_ofNat _ (by omega), toInt_ofNat _ (by omega)] at this
    omega
  by_cases h : j = k
  · rw [if_pos (e.mpr h), if_pos h]
  · rw [if_neg (fun h' => h (e.mp h')), if_neg h]

theorem pay13_of (n z : FVec Ideal S576x64 .f32) (hn : ∀ r o, n (ix2 r o) = nrow (zOn X Wp A B C b r) o)
    (hz : ∀ r o, z (ix2 r o) = zAv Y Wp A B C A' B' C' b r o) :
    k0_pay13 (F := Ideal) n z = (∑ r : Fin 576, dev X Y Wp A B C A' B' C' b r) * (((589824 : ℝ)⁻¹ : ℝ) : EReal) := by
  rw [pay13_eq]
  simp only [hn, hz]
  rfl

end

end Cert.KernelIdeal.Hand

end
-- ==== Proof.Value1.lean ====
/- The first region's results: block by block, what the kernel stores is what the reference computes. -/
module

public import proofs.«01_k».proof.Proof.Blocks1

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Hand
open Cert.ReferenceIdeal.Hand (trow zOn zAv dev map1 map2 rO rU rN rZ rD rC rI rG rT rM rS fn_arg2 z1_at z2_at nz1_at idx_at gap_at mse_at)

variable (m : (ℓ : Loc nD τ sig) → Buf (Elt Ideal) ℓ) (c : Dev nD)

/-! The arguments, as the entry reads them. -/
abbrev a0 : FVec Ideal S16x3x384x384 .f32 := m ((c : Thread nD τ).loc main_arg0)
abbrev a1 : FVec Ideal S16x3x384x384 .f32 := m ((c : Thread nD τ).loc main_arg1)
abbrev a2 : FVec Ideal S768x384 .f32 := m ((c : Thread nD τ).loc main_arg2)
abbrev a3 : FVec Ideal S384x384 .f32 := m ((c : Thread nD τ).loc main_arg3)
abbrev a4 : FVec Ideal S384x64 .f32 := m ((c : Thread nD τ).loc main_arg4)
abbrev a5 : FVec Ideal S384x64 .f32 := m ((c : Thread nD τ).loc main_arg5)
abbrev a6 : FVec Ideal S384x384 .f32 := m ((c : Thread nD τ).loc main_arg6)
abbrev a7 : FVec Ideal S384x64 .f32 := m ((c : Thread nD τ).loc main_arg7)
abbrev a8 : FVec Ideal S384x64 .f32 := m ((c : Thread nD τ).loc main_arg8)
abbrev a9 : FVec Ideal S512x64 .f32 := m ((c : Thread nD τ).loc main_arg9)

/-- The online head's rows at point `t`. -/
def rows (t : Fin cfg0.N) : FVec Ideal S576x64 .f32 := k0_pay9 (iblk m c 0 t) (iblk m c 2 t) (iblk m c 3 t) (iblk m c 4 t) (iblk m c 5 t)

/-- The averaged head's rows at point `t`. -/
def avgs (t : Fin cfg0.N) : FVec Ideal S576x64 .f32 :=
  k0_pay11 (k0_pay6 (iblk m c 1 t)) (iblk m c 6 t) (iblk m c 3 t) (iblk m c 7 t) (iblk m c 4 t) (iblk m c 8 t) (iblk m c 5 t) (iblk m c 2 t)

theorem z_at (t : Fin cfg0.N) (b : Fin 16) (hb : b.val = t.val) (r : Fin 576) (o : Fin 64) :
    k0_pay7 (F := Ideal) (iblk m c 0 t) (iblk m c 2 t) (iblk m c 3 t) (iblk m c 4 t) (iblk m c 5 t) (ix2 r o)
      = zOn (a0 m c) (a2 m c) (a3 m c) (a4 m c) (a5 m c) b r o :=
  pay7_of (a0 m c) (a2 m c) (a3 m c) (a4 m c) (a5 m c) b _ _ _ _ _ (fun r k => iblk0_at m c t b hb r k) (fun i j => iblk2_at m c t i j)
    (fun i j => iblk3_at m c t i j) (fun i j => iblk4_at m c t i j) (fun i j => iblk5_at m c t i j) r o

theorem rows_at (t : Fin cfg0.N) (b : Fin 16) (hb : b.val = t.val) (r : Fin 576) (o : Fin 64) :
    rows m c t (ix2 r o) = nrow (zOn (a0 m c) (a2 m c) (a3 m c) (a4 m c) (a5 m c) b r) o :=
  pay9_of (a0 m c) (a2 m c) (a3 m c) (a4 m c) (a5 m c) b _ _ _ _ _ (fun r k => iblk0_at m c t b hb r k) (fun i j => iblk2_at m c t i j)
    (fun i j => iblk3_at m c t i j) (fun i j => iblk4_at m c t i j) (fun i j => iblk5_at m c t i j) r o

theorem avgs_at (t : Fin cfg0.N) (b : Fin 16) (hb : b.val = t.val) (r : Fin 576) (o : Fin 64) :
    avgs m c t (ix2 r o) = zAv (a1 m c) (a2 m c) (a3 m c) (a4 m c) (a5 m c) (a6 m c) (a7 m c) (a8 m c) b r o :=
  pay11_of (a1 m c) (a2 m c) (a3 m c) (a4 m c) (a5 m c) (a6 m c) (a7 m c) (a8 m c) b _ _ _ _ _ _ _ _ (fun r k => iblk1_at m c t b hb r k)
    (fun i j => iblk6_at m c t i j) (fun i j => iblk3_at m c t i j) (fun i j => iblk7_at m c t i j) (fun i j => iblk4_at m c t i j)
    (fun i j => iblk8_at m c t i j) (fun i j => iblk5_at m c t i j) (fun i j => iblk2_at m c t i j) r o

/-- What point `t` leaves in the five blocks it writes whole. -/
theorem outs (t : Fin cfg0.N) :
    (outsAt0 m c t.val t.isLt).1 = k0_pay10 (iblk m c 0 t) (iblk m c 2 t) (iblk m c 3 t) (iblk m c 4 t) (iblk m c 5 t)
    ∧ (outsAt0 m c t.val t.isLt).2.1 = k0_pay8 (iblk m c 0 t) (iblk m c 2 t) (iblk m c 3 t) (iblk m c 4 t) (iblk m c 5 t)
    ∧ (outsAt0 m c t.val t.isLt).2.2.1
        = k0_pay12 (k0_pay6 (iblk m c 1 t)) (iblk m c 6 t) (iblk m c 3 t) (iblk m c 7 t) (iblk m c 4 t) (iblk m c 8 t) (iblk m c 5 t) (iblk m c 2 t)
    ∧ (outsAt0 m c t.val t.isLt).2.2.2.1 = k0_pay2 (k0_pay16 (rows m c t) (iblk m c 9 t))
    ∧ (outsAt0 m c t.val t.isLt).2.2.2.2.1
        = k0_pay3 (k0_pay14 (rows m c t) (iblk m c 9 t)) (k0_pay15 (rows m c t) (iblk m c 9 t)) (iota .tc S576x512 32 [1] iota_S576x512_d1_w32)
            (k0_pay16 (rows m c t) (iblk m c 9 t)) := by
  have hN : t.val < 16 := lt_of_lt_of_eq t.isLt N_0
  by_cases h : 1 ≤ t.val
  · have h0 : ¬t.val % 16 = 0 := by omega
    rw [outsAt0_B m c t h0 h]; frame_out
    refine ⟨?_, ?_, ?_, ?_, ?_⟩ <;> first | exact True.intro | rfl
  · have h0 : t.val % 16 = 0 := by omega
    rw [outsAt0_A m c t h0 h]; frame_out
    refine ⟨?_, ?_, ?_, ?_, ?_⟩ <;> first | exact True.intro | rfl

theorem final10 : (dats m 0 c).arrAt 10 cfg0.N = rO (rU (rN (rZ (map1 (a0 m c) (a2 m c) (a3 m c) (a4 m c) (a5 m c))))) := by
  refine (dats m 0 c).arrAt_eq_of_covers 10 _ (by decide +kernel) fun t hf y => ?_
  have hN : t.val < 16 := lt_of_lt_of_eq t.isLt N_0
  blk_simp
  rw [after0_10, (outs m c t).1]
  obtain ⟨a, o, r, rfl⟩ : ∃ (a : Fin 1) (o : Fin 64) (r : Fin 576), y = ix3 a o r := ⟨y 0, y 1, y 2, eq_ix3 y⟩
  refine (pay10_at _ _ _ _ _ a o r).trans ?_
  refine (rows_at m c t ⟨t.val, hN⟩ rfl r o).trans ?_
  refine (nz1_at (a0 m c) (a2 m c) (a3 m c) (a4 m c) (a5 m c) ⟨t.val, hN⟩ o r).symm.trans ?_
  generalize rO (rU (rN (rZ (map1 (a0 m c) (a2 m c) (a3 m c) (a4 m c) (a5 m c))))) = W
  blk_ext [idx t]

theorem final11 : (dats m 0 c).arrAt 11 cfg0.N = rO (map1 (a0 m c) (a2 m c) (a3 m c) (a4 m c) (a5 m c)) := by
  refine (dats m 0 c).arrAt_eq_of_covers 11 _ (by decide +kernel) fun t hf y => ?_
  have hN : t.val < 16 := lt_of_lt_of_eq t.isLt N_0
  blk_simp
  rw [after0_11, (outs m c t).2.1]
  obtain ⟨a, o, r, rfl⟩ : ∃ (a : Fin 1) (o : Fin 64) (r : Fin 576), y = ix3 a o r := ⟨y 0, y 1, y 2, eq_ix3 y⟩
  refine (pay8_at _ _ _ _ _ a o r).trans ?_
  refine (z_at m c t ⟨t.val, hN⟩ rfl r o).trans ?_
  refine (z1_at (a0 m c) (a2 m c) (a3 m c) (a4 m c) (a5 m c) ⟨t.val, hN⟩ o r).symm.trans ?_
  generalize rO (map1 (a0 m c) (a2 m c) (a3 m c) (a4 m c) (a5 m c)) = W
  blk_ext [idx t]

theorem final12 : (dats m 0 c).arrAt 12 cfg0.N = rO (map2 (a1 m c) (a2 m c) (a3 m c) (a4 m c) (a5 m c) (a6 m c) (a7 m c) (a8 m c)) := by
  refine (dats m 0 c).arrAt_eq_of_covers 12 _ (by decide +kernel) fun t hf y => ?_
  have hN : t.val < 16 := lt_of_lt_of_eq t.isLt N_0
  blk_simp
  rw [after0_12, (outs m c t).2.2.1]
  obtain ⟨a, o, r, rfl⟩ : ∃ (a : Fin 1) (o : Fin 64) (r : Fin 576), y = ix3 a o r := ⟨y 0, y 1, y 2, eq_ix3 y⟩
  refine (pay12_at _ _ _ _ _ _ _ _ a o r).trans ?_
  refine (avgs_at m c t ⟨t.val, hN⟩ rfl r o).trans ?_
  refine (z2_at (a1 m c) (a2 m c) (a3 m c) (a4 m c) (a5 m c) (a6 m c) (a7 m c) (a8 m c) ⟨t.val, hN⟩ o r).symm.trans ?_
  generalize rO (map2 (a1 m c) (a2 m c) (a3 m c) (a4 m c) (a5 m c) (a6 m c) (a7 m c) (a8 m c)) = W
  blk_ext [idx t]

theorem final13 : (dats m 0 c).arrAt 13 cfg0.N = rI fn_arg2 (rD (rN (rZ (map1 (a0 m c) (a2 m c) (a3 m c) (a4 m c) (a5 m c)))) (rC (a9 m c))) := by
  refine (dats m 0 c).arrAt_eq_of_covers 13 _ (by decide +kernel) fun t hf y => ?_
  have hN : t.val < 16 := lt_of_lt_of_eq t.isLt N_0
  blk_simp
  rw [after0_13, (outs m c t).2.2.2.1]
  obtain ⟨a, o, r, rfl⟩ : ∃ (a o : Fin 1) (r : Fin 576), y = ix3 a o r := ⟨y 0, y 1, y 2, eq_ix3 y⟩
  obtain ⟨k, hk⟩ := exists_top (by decide) (far (a0 m c) (a2 m c) (a3 m c) (a4 m c) (a5 m c) (a9 m c) ⟨t.val, hN⟩ r)
  refine (pay2_at _ a o r).trans ?_
  refine (pay1_of (a0 m c) (a2 m c) (a3 m c) (a4 m c) (a5 m c) (a9 m c) ⟨t.val, hN⟩ (rows m c t) (iblk m c 9 t)
    (fun r o => rows_at m c t ⟨t.val, hN⟩ rfl r o) (fun i j => iblk9_at m c t i j) r k hk).trans ?_
  refine (idx_at (a0 m c) (a2 m c) (a3 m c) (a4 m c) (a5 m c) (a9 m c) ⟨t.val, hN⟩ o r k
    (fun k => sq_isR _ _ (fun d => nrow_isR _ _) (fun d => nrow_isR _ _)) hk).symm.trans ?_
  generalize rI fn_arg2 (rD (rN (rZ (map1 (a0 m c) (a2 m c) (a3 m c) (a4 m c) (a5 m c)))) (rC (a9 m c))) = W
  blk_ext [idx t]

theorem final14 : (dats m 0 c).arrAt 14 cfg0.N = rG (rT (rD (rN (rZ (map1 (a0 m c) (a2 m c) (a3 m c) (a4 m c) (a5 m c)))) (rC (a9 m c)))) := by
  refine (dats m 0 c).arrAt_eq_of_covers 14 _ (by decide +kernel) fun t hf y => ?_
  have hN : t.val < 16 := lt_of_lt_of_eq t.isLt N_0
  blk_simp
  rw [after0_14, (outs m c t).2.2.2.2]
  obtain ⟨a, o, r, rfl⟩ : ∃ (a o : Fin 1) (r : Fin 576), y = ix3 a o r := ⟨y 0, y 1, y 2, eq_ix3 y⟩
  obtain ⟨k, hk⟩ := exists_top (by decide) (far (a0 m c) (a2 m c) (a3 m c) (a4 m c) (a5 m c) (a9 m c) ⟨t.val, hN⟩ r)
  refine (pay3_of (a0 m c) (a2 m c) (a3 m c) (a4 m c) (a5 m c) (a9 m c) ⟨t.val, hN⟩ (rows m c t) (iblk m c 9 t)
    (fun r o => rows_at m c t ⟨t.val, hN⟩ rfl r o) (fun i j => iblk9_at m c t i j) a o r k hk).trans ?_
  refine (gap_at (a0 m c) (a2 m c) (a3 m c) (a4 m c) (a5 m c) (a9 m c) ⟨t.val, hN⟩ o r k hk).symm.trans ?_
  generalize rG (rT (rD (rN (rZ (map1 (a0 m c) (a2 m c) (a3 m c) (a4 m c) (a5 m c)))) (rC (a9 m c)))) = W
  blk_ext [idx t]

/-! ## The mean of the squared differences -/

/-- What point `t` adds. -/
def part (t : ℕ) : EReal :=
  if h : t < 16 then (∑ r : Fin 576, dev (a0 m c) (a1 m c) (a2 m c) (a3 m c) (a4 m c) (a5 m c) (a6 m c) (a7 m c) (a8 m c) ⟨t, h⟩ r)
    * (((589824 : ℝ)⁻¹ : ℝ) : EReal) else 0

theorem pay_part (t : Fin cfg0.N) : k0_pay13 (F := Ideal) (rows m c t) (avgs m c t) = part m c t.val := by
  have hN : t.val < 16 := lt_of_lt_of_eq t.isLt N_0
  rw [part, dif_pos hN]
  exact pay13_of (a0 m c) (a1 m c) (a2 m c) (a3 m c) (a4 m c) (a5 m c) (a6 m c) (a7 m c) (a8 m c) ⟨t.val, hN⟩ _ _
    (fun r o => rows_at m c t ⟨t.val, hN⟩ rfl r o) (fun r o => avgs_at m c t ⟨t.val, hN⟩ rfl r o)

theorem outA (t : Fin cfg0.N) (h0 : t.val % 16 = 0) (h1 : ¬1 ≤ t.val) (y : S1x1.Idx) :
    (outsAt0 m c t.val t.isLt).2.2.2.2.2 y = part m c t.val := by
  rw [outsAt0_A m c t h0 h1]; frame_out
  exact (pay4_at _ _).trans (pay_part m c t)

theorem outB (t : Fin cfg0.N) (h0 : ¬t.val % 16 = 0) (h1 : 1 ≤ t.val) (y : S1x1.Idx) :
    (outsAt0 m c t.val t.isLt).2.2.2.2.2 y
      = (outsAt0 m c (t.val - 1) (Nat.lt_of_le_of_lt (Nat.sub_le _ _) t.isLt)).2.2.2.2.2 y + part m c t.val := by
  rw [outsAt0_B m c t h0 h1]; frame_out
  exact (pay5_at _ _ _).trans (congrArg (HAdd.hAdd _) (pay_part m c t))

theorem acc (y : S1x1.Idx) : ∀ (n : ℕ) (hn : n < cfg0.N), (outsAt0 m c n hn).2.2.2.2.2 y = ∑ t ∈ Finset.range (n + 1), part m c t
  | 0, hn => by
    rw [Finset.sum_range_one]
    exact outA m c ⟨0, hn⟩ (by simp) (by simp) y
  | n + 1, hn => by
    have hN : n + 1 < 16 := lt_of_lt_of_eq hn N_0
    rw [Finset.sum_range_succ, ← acc y n (Nat.lt_of_succ_lt hn)]
    exact outB m c ⟨n + 1, hn⟩ (by show ¬ (n + 1) % 16 = 0; omega) (by show 1 ≤ n + 1; omega) y

theorem total : ∑ t ∈ Finset.range (15 + 1), part m c t
    = (∑ n : Fin 9216, dev (a0 m c) (a1 m c) (a2 m c) (a3 m c) (a4 m c) (a5 m c) (a6 m c) (a7 m c) (a8 m c) (⟨n.val / 576, by omega⟩ : Fin 16) (⟨n.val % 576, by omega⟩ : Fin 576))
      * (((589824 : ℝ)⁻¹ : ℝ) : EReal) := by
  rw [Fin.sum_univ_tiles 16 576 rfl, sum_scale _ _ _ (by positivity), Finset.sum_range]
  refine Finset.sum_congr rfl fun t _ => ?_
  rw [part, dif_pos t.isLt]
  refine congrArg (fun z : EReal => z * (((589824 : ℝ)⁻¹ : ℝ) : EReal)) (Finset.sum_congr rfl fun r _ => ?_)
  have ht := t.isLt
  have hr := r.isLt
  exact congrArg₂ (dev (a0 m c) (a1 m c) (a2 m c) (a3 m c) (a4 m c) (a5 m c) (a6 m c) (a7 m c) (a8 m c))
    (Fin.ext (by show t.val = (t.val * 576 + r.val) / 576; omega)) (Fin.ext (by show r.val = (t.val * 576 + r.val) % 576; omega))

theorem final15 : (dats m 0 c).arrAt 15 cfg0.N
    = rS (rM (rN (rZ (map1 (a0 m c) (a2 m c) (a3 m c) (a4 m c) (a5 m c))))
        (rN (rZ (map2 (a1 m c) (a2 m c) (a3 m c) (a4 m c) (a5 m c) (a6 m c) (a7 m c) (a8 m c))))) := by
  refine (dats m 0 c).arrAt_eq_of_covers 15 _ (by decide +kernel) fun t hf y => ?_
  have ht : t.val = 15 := by have := (flush0_15 t).mp hf; have : t.val < 16 := lt_of_lt_of_eq t.isLt N_0; omega
  blk_simp
  rw [after0_15]
  refine (acc m c y t.val t.isLt).trans ?_
  rw [ht, total]
  exact (mse_at (a0 m c) (a1 m c) (a2 m c) (a3 m c) (a4 m c) (a5 m c) (a6 m c) (a7 m c) (a8 m c) _).symm

end Cert.KernelIdeal.Hand

end
-- ==== Proof.Pure2.lean ====
/- The second region's payloads and the second reference's term, read at an index. -/
module

public import proofs.«01_k».proof.Proof.Math
public import proofs.«01_k».proof.Proof.Gen.Kernel2Ideal.Skeleton

@[expose] public section

set_option maxRecDepth 16384

noncomputable section

open Idealize.ShloMosaic Idealize.ShloMosaic.TcCoe Idealize.SL.Sem

namespace Cert.Kernel2Ideal.Hand

open Cert.Kernel2Ideal Cert.Kernel2Ideal.Gen Cert.Hand

theorem inv_ts : Named.named (F := Ideal) Cert.Kernel2Ideal.κ "inv_ts" (φ := .f32) 0x41649249#32 = ((((9395241 / 134217728 : ℝ))⁻¹ : ℝ) : EReal) :=
  IdealRules.named_const.ideal_named_scalar _ _ _ _ rfl
theorem inv_count : Named.named (F := Ideal) Cert.Kernel2Ideal.κ "inv_count" (φ := .f32) 0x37A3D70A#32 = (((51200 : ℝ)⁻¹ : ℝ) : EReal) :=
  IdealRules.named_const.ideal_named_scalar _ _ _ _ rfl

/-- The logit of a row against a centroid. -/
def lg (q c : Fin 64 → EReal) : EReal := (∑ d, nrow q d * nrow c d) * ((((9395241 / 134217728 : ℝ))⁻¹ : ℝ) : EReal)

theorem pay4_at (v0 : FVec Ideal S2048x64 .f32) (v10 : FVec Ideal S512x64 .f32) (r : Fin 2048) (k : Fin 512) :
    k0_pay4 (F := Ideal) v0 v10 (ix2 r k) = lg (fun d => v0 (ix2 r d)) (fun d => v10 (ix2 k d)) := by
  pointwise [k0_pay4, inv_ts]
  rfl

theorem pay5_at (v0 : FVec Ideal S2048x64 .f32) (v10 : FVec Ideal S512x64 .f32) (r : Fin 2048) :
    k0_pay5 (F := Ideal) v0 v10 (ix1 r) = Ideal.log (∑ k, Ideal.exp (lg (fun d => v0 (ix2 r d)) (fun d => v10 (ix2 k d)))) := by
  pointwise [k0_pay5, pay4_at]

theorem hit_select (a r k : ℕ) (x : EReal) (ha : a < 25) (hr : r < 2048) (hk : k < 512) :
    Scalar.select (IntOp.andi
        (IntOp.cmpi .sge (IntOp.addi (Scalar.muli (BitVec.ofNat 32 a) 2048#32) (BitVec.ofNat 32 r)) (IntOp.muli 100#32 (BitVec.ofNat 32 k)))
        (IntOp.cmpi .slt (IntOp.addi (Scalar.muli (BitVec.ofNat 32 a) 2048#32) (BitVec.ofNat 32 r))
          (IntOp.muli 100#32 (IntOp.addi (BitVec.ofNat 32 k) 1#32)))) x (0 : EReal)
      = if (a * 2048 + r) / 100 = k then x else 0 := by
  have e1 : IntOp.addi (Scalar.muli (BitVec.ofNat 32 a) 2048#32) (BitVec.ofNat 32 r) = BitVec.ofNat 32 (a * 2048 + r) := by
    show BitVec.ofNat 32 a * BitVec.ofNat 32 2048 + BitVec.ofNat 32 r = _
    rw [BitVec.ofNat_add, BitVec.ofNat_mul]
  have e2 : IntOp.muli 100#32 (BitVec.ofNat 32 k) = BitVec.ofNat 32 (100 * k) := by
    show BitVec.ofNat 32 100 * BitVec.ofNat 32 k = _
    rw [BitVec.ofNat_mul]
  have e3 : IntOp.muli 100#32 (IntOp.addi (BitVec.ofNat 32 k) 1#32) = BitVec.ofNat 32 (100 * (k + 1)) := by
    show BitVec.ofNat 32 100 * (BitVec.ofNat 32 k + BitVec.ofNat 32 1) = _
    rw [BitVec.ofNat_mul, BitVec.ofNat_add]
  rw [e1, e2, e3, WordCmp.cmpi_sge_ofNat (by omega) (by omega), WordCmp.cmpi_slt_ofNat (by omega) (by omega)]
  by_cases h : (a * 2048 + r) / 100 = k
  · have h1 : 100 * k ≤ a * 2048 + r := by omega
    have h2 : a * 2048 + r < 100 * (k + 1) := by omega
    simp [h, h1, h2, Scalar.select, IntOp.andi]
  · by_cases h1 : 100 * k ≤ a * 2048 + r
    · have h2 : ¬ a * 2048 + r < 100 * (k + 1) := by omega
      simp [h, h1, h2, Scalar.select, IntOp.andi]
    · simp [h, h1, Scalar.select, IntOp.andi]

theorem pay6_at (i : grid0.Coords) (v0 : FVec Ideal S2048x64 .f32) (v10 : FVec Ideal S512x64 .f32) (r : Fin 2048) (k : Fin 512) :
    k0_pay6 (F := Ideal) i v0 v10 (ix2 r k) =
      if ((i 0).val * 2048 + r.val) / 100 = k.val then lg (fun d => v0 (ix2 r d)) (fun d => v10 (ix2 k d)) else 0 := by
  pointwise [k0_pay6, pay4_at]
  have h0 : (i 0).val < 25 := (i 0).isLt
  exact hit_select _ _ _ _ h0 r.isLt k.isLt

theorem pay1_at (v24 : FVec Ideal S2048 .f32) (v42 : FVec Ideal S2048x512 .f32) :
    k0_pay1 (F := Ideal) v24 v42 = (∑ r, (v24 (ix1 r) - ∑ k, v42 (ix2 r k))) * (((51200 : ℝ)⁻¹ : ℝ) : EReal) := by
  unfold k0_pay1
  pointwise [inv_count]

theorem pay2_at (v24 : FVec Ideal S2048 .f32) (v42 : FVec Ideal S2048x512 .f32) (y : S1x1.Idx) :
    k0_pay2 (F := Ideal) v24 v42 y = k0_pay1 (F := Ideal) v24 v42 := by
  pointwise [k0_pay2]

theorem pay3_at (v24 : FVec Ideal S2048 .f32) (v42 : FVec Ideal S2048x512 .f32) (v : FVec Ideal S1x1 .f32) (y : S1x1.Idx) :
    k0_pay3 (F := Ideal) v24 v42 v y = v y + k0_pay1 (F := Ideal) v24 v42 := by
  pointwise [k0_pay3]

end Cert.Kernel2Ideal.Hand

end
-- ==== Proof.Ref2.lean ====
/- The second reference's term read at its one index: the mean over the rows of the logarithm of the summed
   exponentials of the row's logits less the logit at the row's label. -/
module

public import proofs.«01_k».proof.Proof.Math
public import proofs.«01_k».proof.Proof.Gen.Reference2Ideal.Run

@[expose] public section

set_option maxRecDepth 16384

noncomputable section

open Idealize.ShloMosaic Idealize.ShloMosaic.TcCoe Idealize.SL.Sem

namespace Cert.Reference2Ideal.Hand

open Cert.Reference2Ideal Cert.Reference2Ideal.Gen Cert.Reference2Ideal.Value Cert.Hand

variable {F : FTy → Type} [FloatOps F]

/-- The logits. -/
def rL (C : FVec F S512x64 .f32) (Q : FVec F S512x100x64 .f32) : FVec F S51200x512 .f32 :=
  Host.divf (Host.dotGeneral dot_S51200x64_S64x512_S51200x512_1_0_0_1_n_n none (Host.divf (shapeCast _ Q shapeCasts_S512x100x64_S51200x64) (broadcastInDim S51200x64 ![0, 1] bcast_S51200x1_S51200x64_0_1 (maximumf (broadcastInDim S51200x1 ![] bcast_S_S51200x1 (id (constant S_ .f32 0x2B8CBCCC#32))) (Host.sqrt (broadcastInDim S51200x1 ![0] bcast_S51200_S51200x1_0 (Host.reduceAdd (mulf (shapeCast _ Q shapeCasts_S512x100x64_S51200x64) (shapeCast _ Q shapeCasts_S512x100x64_S51200x64)) (constant S_ .f32 0x00000000#32) reducesTo_S51200x64_S51200_d1 h_S_)))))) (transpose S64x512 [1, 0] (Host.divf C (broadcastInDim S512x64 ![0, 1] bcast_S512x1_S512x64_0_1 (maximumf (broadcastInDim S512x1 ![] bcast_S_S512x1 (id (constant S_ .f32 0x2B8CBCCC#32))) (Host.sqrt (broadcastInDim S512x1 ![0] bcast_S512_S512x1_0 (Host.reduceAdd (mulf C C) (constant S_ .f32 0x00000000#32) reducesTo_S512x64_S512_d1 h_S_)))))) transposes_S512x64_S64x512_1_0)) (broadcastInDim S51200x512 ![] bcast_S_S51200x512 (constant S_ .f32 0x3D8F5C29#32))
/-- The (row, label) pairs. -/
def rIdx : IVec S51200x2 32 :=
  concatenate S51200x2 1 [⟨S51200x1, (broadcastInDim S51200x1 ![0] bcast_S51200_S51200x1_0 (select (cmpi .slt (iotaInDim S51200 32 0) (broadcastInDim S51200 ![] bcast_S_S51200 (constantI S_ 32 0#32))) (addi (iotaInDim S51200 32 0) (broadcastInDim S51200 ![] bcast_S_S51200 (constantI S_ 32 51200#32))) (iotaInDim S51200 32 0)))⟩, ⟨S51200x1, (broadcastInDim S51200x1 ![0] bcast_S51200_S51200x1_0 (select (cmpi .slt (shapeCast _ (broadcastInDim S512x100 ![0] bcast_S512_S512x100_0 (iotaInDim S512 32 0)) shapeCasts_S512x100_S51200) (broadcastInDim S51200 ![] bcast_S_S51200 (constantI S_ 32 0#32))) (addi (shapeCast _ (broadcastInDim S512x100 ![0] bcast_S512_S512x100_0 (iotaInDim S512 32 0)) shapeCasts_S512x100_S51200) (broadcastInDim S51200 ![] bcast_S_S51200 (constantI S_ 32 512#32))) (shapeCast _ (broadcastInDim S512x100 ![0] bcast_S512_S512x100_0 (iotaInDim S512 32 0)) shapeCasts_S512x100_S51200)))⟩] concatenates_S51200x1_S51200x1_S51200x2_d1
/-- The largest logit of each row. -/
def rMax (l : FVec F S51200x512 .f32) : FVec F S51200 .f32 :=
  Host.reduce FloatOps.maximumf l (constant S_ .f32 0xFF800000#32) reducesTo_S51200x512_S51200_d1 h_S_
/-- The logits of each row less its largest. -/
def rSh (l : FVec F S51200x512 .f32) : FVec F S51200x512 .f32 :=
  subf l (broadcastInDim S51200x512 ![0, 1] bcast_S51200x1_S51200x512_0_1 (broadcastInDim S51200x1 ![0] bcast_S51200_S51200x1_0 (rMax l)))
/-- Their exponentials summed. -/
def rSum (s : FVec F S51200x512 .f32) : FVec F S51200 .f32 :=
  Host.reduceAdd (Host.exp s) (constant S_ .f32 0x00000000#32) reducesTo_S51200x512_S51200_d1 h_S_
/-- The largest logits as a column and back. -/
def rCol (x : FVec F S51200 .f32) : FVec F S51200 .f32 :=
  shapeCast _ (broadcastInDim S51200x1 ![0] bcast_S51200_S51200x1_0 x) shapeCasts_S51200x1_S51200
/-- The logarithm of the summed exponentials of each row, its largest logit taken out. -/
def rLse (l : FVec F S51200x512 .f32) : FVec F S51200 .f32 :=
  addf (rCol (rMax l)) (Host.log (rSum (rSh l)))
/-- Each row's loss. -/
def rRow (l : FVec F S51200x512 .f32) : FVec F S51200 .f32 :=
  subf (rLse l) (Host.gather gather_S51200x512_S51200x2_S51200_n_01_n_n_01_1_11 l rIdx)
/-- The mean over the rows. -/
def rTot (v : FVec F S51200 .f32) : FVec F S1x1 .f32 :=
  shapeCast _ (Host.divf (Host.reduceAdd v (constant S_ .f32 0x00000000#32) reducesTo_S51200_S_d0 h_S_) (constant S_ .f32 0x47480000#32)) shapeCasts_S_S1x1

theorem res_eq (m : (ℓ : Loc nD τ sig) → Buf (Elt F) ℓ) (c : Dev nD) :
    res_out0 (F := F) m c = rTot (rRow (rL (m ((c.tc : Thread nD τ).loc main_arg0)) (m ((c.tc : Thread nD τ).loc main_arg1)))) := rfl

theorem ts : Ideal.ofBits .f32 0x3D8F5C29#32 = ((9395241 / 134217728 : ℝ) : EReal) := by
  simp [Ideal.ofBits, Ideal.ieee, -EReal.coe_mul]; norm_num
theorem n51200 : Ideal.ofBits .f32 0x47480000#32 = ((51200 : ℝ) : EReal) := by
  simp [Ideal.ofBits, Ideal.ieee, -EReal.coe_mul]; norm_num
theorem ninf : Ideal.ofBits .f32 0xFF800000#32 = (⊥ : EReal) := by
  simp [Ideal.ofBits, Ideal.ieee]

theorem rL_at (C : FVec Ideal S512x64 .f32) (Q : FVec Ideal S512x100x64 .f32) (n : Fin 51200) (k : Fin 512) :
    rL (F := Ideal) C Q (ix2 n k)
      = (∑ d : Fin 64, nrow (fun d => Q (ix3 (⟨n.val / 100, by omega⟩ : Fin 512) (⟨n.val % 100, by omega⟩ : Fin 100) d)) d * nrow (fun d => C (ix2 k d)) d)
        * (((9395241 / 134217728 : ℝ)⁻¹ : ℝ) : EReal) := by
  pointwise [rL, ts]
  rw [Ideal.div_coe (by norm_num), one_div]
  rfl

theorem wrap (a c : BitVec 32) (h : a.toNat < 2 ^ 31) : Scalar.select (IntOp.cmpi .slt a 0#32) (IntOp.addi a c) a = a := by
  rw [WordCmp.cmpi_slt_zero]
  have : decide (2 ^ (32 - 1) ≤ a.toNat) = false := by simpa using h
  rw [this]
  rfl

theorem rIdx0 (n : Fin 51200) : rIdx (ix2 n (0 : Fin 2)) = BitVec.ofNat 32 n.val := by
  pointwise [rIdx]
  have := n.isLt
  exact wrap _ _ (by rw [BitVec.toNat_ofNat, Nat.mod_eq_of_lt (by omega)]; omega)
theorem rIdx1 (n : Fin 51200) : rIdx (ix2 n (1 : Fin 2)) = BitVec.ofNat 32 (n.val / 100) := by
  pointwise [rIdx]
  have := n.isLt
  exact wrap _ _ (by rw [BitVec.toNat_ofNat, Nat.mod_eq_of_lt (by omega)]; omega)

theorem gather_at (x : FVec Ideal S51200x512 .f32) (n : Fin 51200) :
    Host.gather gather_S51200x512_S51200x2_S51200_n_01_n_n_01_1_11 x rIdx (ix1 n) = x (ix2 n (⟨n.val / 100, by omega⟩ : Fin 512)) := by
  unfold Host.gather
  refine congrArg x (funext fun a => Fin.ext ?_)
  have s0 : ∀ hh, gather_S51200x512_S51200x2_S51200_n_01_n_n_01_1_11.siIdx (ix1 n) ⟨0, hh⟩ = ix2 n (0 : Fin 2) := fun hh => by
    funext b; fin_cases b <;> rfl
  have s1 : ∀ hh, gather_S51200x512_S51200x2_S51200_n_01_n_n_01_1_11.siIdx (ix1 n) ⟨1, hh⟩ = ix2 n (1 : Fin 2) := fun hh => by
    funext b; fin_cases b <;> rfl
  have hn := n.isLt
  match a with
  | ⟨0, _⟩ =>
    refine (congrArg (fun z => min (rIdx z).toInt.toNat (51200 - 1) + 0 + 0) (s0 _)).trans ?_
    rw [rIdx0, WordArith.toInt_ofNat_small _ (by omega)]
    show min (Int.toNat (n.val : Int)) (51200 - 1) + 0 + 0 = n.val
    omega
  | ⟨1, _⟩ =>
    refine (congrArg (fun z => min (rIdx z).toInt.toNat (512 - 1) + 0 + 0) (s1 _)).trans ?_
    rw [rIdx1, WordArith.toInt_ofNat_small _ (by omega)]
    show min (Int.toNat ((n.val / 100 : ℕ) : Int)) (512 - 1) + 0 + 0 = n.val / 100
    omega

theorem rMax_at (l : FVec Ideal S51200x512 .f32) (n : Fin 51200) :
    rMax (F := Ideal) l (ix1 n) = Finset.univ.sup (fun k : Fin 512 => l (ix2 n k)) := by
  pointwise [rMax, ninf]
  exact fold_max_eq_sup _ (by simp) _

theorem addf_at {s : Shape} (x y : FVec Ideal s .f32) (i : s.Idx) : addf x y i = (x i : EReal) + y i := rfl
theorem subf_at {s : Shape} (x y : FVec Ideal s .f32) (i : s.Idx) : subf x y i = (x i : EReal) - y i := rfl
theorem log_at {s : Shape} (x : FVec Ideal s .f32) (i : s.Idx) : Host.log x i = Ideal.log (x i) := rfl

theorem rSh_at (l : FVec Ideal S51200x512 .f32) (n : Fin 51200) (k : Fin 512) :
    rSh (F := Ideal) l (ix2 n k) = l (ix2 n k) - Finset.univ.sup (fun k : Fin 512 => l (ix2 n k)) := by
  refine (subf_at _ _ _).trans (congrArg (fun z : EReal => l (ix2 n k) - z) ?_)
  refine Eq.trans ?_ (rMax_at l n)
  generalize rMax (F := Ideal) l = v
  pointwise

theorem rSum_at (s : FVec Ideal S51200x512 .f32) (n : Fin 51200) :
    rSum (F := Ideal) s (ix1 n) = ∑ k : Fin 512, Ideal.exp (s (ix2 n k)) := by
  pointwise [rSum]

theorem rCol_at (x : FVec Ideal S51200 .f32) (n : Fin 51200) : rCol (F := Ideal) x (ix1 n) = x (ix1 n) := by
  pointwise [rCol]

theorem rLse_at (l : FVec Ideal S51200x512 .f32) (hl : ∀ n k, IsR (l (ix2 n k))) (n : Fin 51200) :
    rLse (F := Ideal) l (ix1 n) = Ideal.log (∑ k : Fin 512, Ideal.exp (l (ix2 n k))) := by
  refine (addf_at _ _ _).trans ?_
  rw [log_at, rCol_at, rMax_at, rSum_at]
  simp only [rSh_at]
  obtain ⟨k, hk⟩ := sup_isR (by norm_num) (fun k : Fin 512 => l (ix2 n k)) (fun k => hl n k)
  rw [hk]
  exact (lse_shift (by norm_num) (fun k : Fin 512 => l (ix2 n k)) (fun k => hl n k) _ (hl n k)).symm

theorem rTot_at (v : FVec Ideal S51200 .f32) (y : S1x1.Idx) :
    rTot (F := Ideal) v y = (∑ n : Fin 51200, v (ix1 n)) * (((51200 : ℝ)⁻¹ : ℝ) : EReal) := by
  pointwise [rTot, n51200]
  rw [Ideal.div_coe (by norm_num), one_div]

theorem rRow_at (l : FVec Ideal S51200x512 .f32) (hl : ∀ n k, IsR (l (ix2 n k))) (n : Fin 51200) :
    rRow (F := Ideal) l (ix1 n) = Ideal.log (∑ k : Fin 512, Ideal.exp (l (ix2 n k))) - l (ix2 n (⟨n.val / 100, by omega⟩ : Fin 512)) :=
  (subf_at _ _ _).trans (congrArg₂ (fun a b : EReal => a - b) (rLse_at l hl n) (gather_at l n))

end Cert.Reference2Ideal.Hand

end
-- ==== Proof.Value2.lean ====
/- The second region's result: the accumulated mean over the grid's points is the reference's mean over all rows. -/
module

public import proofs.«01_k».proof.Proof.Pure2
public import proofs.«01_k».proof.Proof.Ref2
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen Cert.Hand

variable (m : (ℓ : Loc nD τ sig) → Buf (Elt Ideal) ℓ)

theorem idx : ∀ t : Fin cfg0.N, win0_0.index t = ![t.val, 0] ∧ win0_1.index t = ![0, 0] ∧ win0_2.index t = ![0, 0]
    ∧ (grid0.coords t 0).val = t.val :=
  (by decide +kernel : ∀ t : Fin grid0.N, _)

/-- Row `n` of the queue. -/
def qrow (Q : FVec Ideal S512x100x64 .f32) (n : Fin 51200) (d : Fin 64) : EReal :=
  Q (ix3 (⟨n.val / 100, by omega⟩ : Fin 512) (⟨n.val % 100, by omega⟩ : Fin 100) d)

/-- The loss of row `n`. -/
def loss (C : FVec Ideal S512x64 .f32) (Q : FVec Ideal S512x100x64 .f32) (n : Fin 51200) : EReal :=
  Ideal.log (∑ k : Fin 512, Ideal.exp (lg (qrow Q n) (fun d => C (ix2 k d))))
    - lg (qrow Q n) (fun d => C (ix2 (⟨n.val / 100, by omega⟩ : Fin 512) d))

theorem iblk0_at (c : Dev nD) (t : Fin cfg0.N) (r : Fin 2048) (d : Fin 64) (h : t.val * 2048 + r.val < 51200) :
    (show FVec Ideal S2048x64 .f32 from iblk m c 0 t) (ix2 r d)
      = qrow (m ((c : Thread nD τ).loc main_arg1)) ⟨t.val * 2048 + r.val, h⟩ d := by
  unfold qrow
  show iblk m c 0 t (ix2 r d) = _
  blk_simp [iblk, idx t]
  entry_read
  pointwise
  blk_ext [idx t]

theorem iblk1_at (c : Dev nD) (t : Fin cfg0.N) (k : Fin 512) (d : Fin 64) :
    (show FVec Ideal S512x64 .f32 from iblk m c 1 t) (ix2 k d) = m ((c : Thread nD τ).loc main_arg0) (ix2 k d) := by
  show iblk m c 1 t (ix2 k d) = _
  blk_ext [iblk, V, idx t]

/-- What point `t` adds. -/
def part (C : FVec Ideal S512x64 .f32) (Q : FVec Ideal S512x100x64 .f32) (t : ℕ) : EReal :=
  if h : t < 25 then (∑ r : Fin 2048, loss C Q ⟨t * 2048 + r.val, by have := r.isLt; omega⟩) * (((51200 : ℝ)⁻¹ : ℝ) : EReal) else 0

theorem pay_part (C : FVec Ideal S512x64 .f32) (Q : FVec Ideal S512x100x64 .f32) (i : grid0.Coords) (t : ℕ) (ht : t < 25) (hi : (i 0).val = t)
    (v0 : FVec Ideal S2048x64 .f32) (v10 : FVec Ideal S512x64 .f32)
    (h0 : ∀ (r : Fin 2048) d (h : t * 2048 + r.val < 51200), v0 (ix2 r d) = qrow Q ⟨t * 2048 + r.val, h⟩ d)
    (h1 : ∀ k d, v10 (ix2 k d) = C (ix2 k d)) :
    k0_pay1 (F := Ideal) (k0_pay5 v0 v10) (k0_pay6 i v0 v10) = part C Q t := by
  rw [pay1_at, part, dif_pos ht]
  refine congrArg (fun z : EReal => z * (((51200 : ℝ)⁻¹ : ℝ) : EReal)) (Finset.sum_congr rfl fun r _ => ?_)
  have hr := r.isLt
  have e0 : (fun d => v0 (ix2 r d)) = qrow Q ⟨t * 2048 + r.val, by omega⟩ := funext fun d => h0 r d _
  rw [pay5_at]
  simp only [pay6_at, e0, h1, hi]
  rw [loss]
  refine congrArg (HSub.hSub _) ?_
  rw [Finset.sum_eq_single (⟨(t * 2048 + r.val) / 100, by omega⟩ : Fin 512)]
  · rw [if_pos rfl]
  · intro k _ hk
    rw [if_neg]
    intro e
    exact hk (Fin.ext e.symm)
  · intro h; exact absurd (Finset.mem_univ _) h

theorem outA (c : Dev nD) (t : Fin cfg0.N) (h0 : t.val % 25 = 0) (h1 : ¬1 ≤ t.val) (y : S1x1.Idx) :
    outsAt0 m c t.val t.isLt y = part (m ((c : Thread nD τ).loc main_arg0)) (m ((c : Thread nD τ).loc main_arg1)) t.val := by
  rw [outsAt0_A m c t h0 h1]; frame_out
  refine (pay2_at _ _ _).trans (pay_part _ _ _ t.val (lt_of_lt_of_eq t.isLt N_0) (idx t).2.2.2 _ _ (fun r d h => iblk0_at m c t r d h) (fun k d => iblk1_at m c t k d))

theorem outB (c : Dev nD) (t : Fin cfg0.N) (h0 : ¬t.val % 25 = 0) (h1 : 1 ≤ t.val) (y : S1x1.Idx) :
    outsAt0 m c t.val t.isLt y = outsAt0 m c (t.val - 1) (Nat.lt_of_le_of_lt (Nat.sub_le _ _) t.isLt) y
      + part (m ((c : Thread nD τ).loc main_arg0)) (m ((c : Thread nD τ).loc main_arg1)) t.val := by
  rw [outsAt0_B m c t h0 h1]; frame_out
  refine (pay3_at _ _ _ _).trans (congrArg (HAdd.hAdd _) (pay_part _ _ _ t.val (lt_of_lt_of_eq t.isLt N_0) (idx t).2.2.2 _ _ (fun r d h => iblk0_at m c t r d h) (fun k d => iblk1_at m c t k d)))

theorem acc (c : Dev nD) (y : S1x1.Idx) : ∀ (n : ℕ) (hn : n < cfg0.N), outsAt0 m c n hn y
    = ∑ t ∈ Finset.range (n + 1), part (m ((c : Thread nD τ).loc main_arg0)) (m ((c : Thread nD τ).loc main_arg1)) t
  | 0, hn => by
    rw [Finset.sum_range_one]
    exact outA m c ⟨0, hn⟩ (by simp) (by simp) y
  | n + 1, hn => by
    have hN : n + 1 < 25 := lt_of_lt_of_eq hn N_0
    rw [Finset.sum_range_succ, ← acc c y n (Nat.lt_of_succ_lt hn)]
    exact outB m c ⟨n + 1, hn⟩ (by show ¬ (n + 1) % 25 = 0; omega) (by show 1 ≤ n + 1; omega) y

theorem total (C : FVec Ideal S512x64 .f32) (Q : FVec Ideal S512x100x64 .f32) :
    ∑ t ∈ Finset.range (24 + 1), part C Q t = (∑ n : Fin 51200, loss C Q n) * (((51200 : ℝ)⁻¹ : ℝ) : EReal) := by
  rw [Fin.sum_univ_tiles 25 2048 rfl (loss C Q), sum_scale _ _ _ (by positivity), Finset.sum_range]
  refine Finset.sum_congr rfl fun t _ => ?_
  rw [part, dif_pos t.isLt]

theorem isR_lg (q c : Fin 64 → EReal) : IsR (lg q c) := by
  unfold lg
  exact (IsR.sum _ _ fun d => (nrow_isR _ _).mul (nrow_isR _ _)).mul (IsR.coe _)

theorem ref_loss (C : FVec Ideal S512x64 .f32) (Q : FVec Ideal S512x100x64 .f32) (y : S1x1.Idx) :
    Cert.Reference2Ideal.Hand.rTot (Cert.Reference2Ideal.Hand.rRow (Cert.Reference2Ideal.Hand.rL (F := Ideal) C Q)) y
      = (∑ n : Fin 51200, loss C Q n) * (((51200 : ℝ)⁻¹ : ℝ) : EReal) := by
  refine (Cert.Reference2Ideal.Hand.rTot_at _ _).trans ?_
  refine congrArg (fun z : EReal => z * (((51200 : ℝ)⁻¹ : ℝ) : EReal)) (Finset.sum_congr rfl fun n _ => ?_)
  have e : ∀ n k, Cert.Reference2Ideal.Hand.rL (F := Ideal) C Q (ix2 n k) = lg (qrow Q n) (fun d => C (ix2 k d)) :=
    fun n k => Cert.Reference2Ideal.Hand.rL_at C Q n k
  refine (Cert.Reference2Ideal.Hand.rRow_at _ (fun n k => (e n k) ▸ isR_lg _ _) n).trans ?_
  simp only [e]
  rfl

theorem final (c : Dev nD) : (dats m 0 c).arrAt 2 cfg0.N
    = Cert.Reference2Ideal.Hand.rTot (Cert.Reference2Ideal.Hand.rRow (Cert.Reference2Ideal.Hand.rL (F := Ideal)
        (m ((c : Thread nD τ).loc main_arg0)) (m ((c : Thread nD τ).loc main_arg1)))) := by
  refine (dats m 0 c).arrAt_eq_of_covers 2 _ (by decide +kernel) fun t hf y => ?_
  have ht : t.val = 24 := by have := (flush0_2 t).mp hf; have : t.val < 25 := lt_of_lt_of_eq t.isLt N_0; omega
  blk_simp
  rw [after0_2]
  refine (acc m c y t.val t.isLt).trans ?_
  rw [ht, total]
  exact (ref_loss _ _ _).symm

end Cert.Kernel2Ideal.Hand

end
-- ==== Proof.lean ====
/- The proof of the claims: for each of the two calls the frames, the ideal program, and the values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.KernelIdeal.Value
public import proofs.«01_k».proof.Proof.Gen.Reference2Ideal.Run
public import proofs.«01_k».proof.Proof.Gen.Reference2Ideal
public import proofs.«01_k».proof.Proof.Gen.ReferenceIdeal
public import proofs.«01_k».proof.Proof.RefRun
public import proofs.«01_k».proof.Proof.Value1
public import proofs.«01_k».proof.Proof.Value2
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_k : Cert.quiescent_Kernel := fun m ρ _ => Cert.Kernel.Gen.frame m ρ
theorem frame_ki : Cert.quiescent_KernelIdeal := fun m ρ _ => Cert.KernelIdeal.Gen.frame m ρ
theorem frame_k2 : Cert.quiescent_Kernel2 := fun m ρ _ => Cert.Kernel2.Gen.frame m ρ
theorem frame_k2i : Cert.quiescent_Kernel2Ideal := fun m ρ _ => Cert.Kernel2Ideal.Gen.frame m ρ
theorem frame_r2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_r : Cert.quiescent_ReferenceIdeal := fun m ρ _ =>
  (θ_run Cert.ReferenceIdeal.defs _ _).mono (fun r h => ⟨fun c => (h c).2.2.2.2.2.2, Idealize.ShloMosaic.sem_eq_zero_of_no_sems (by decide) r.2⟩)
    (Cert.ReferenceIdeal.Hand.run (F := Ideal) m ρ)

theorem pres : Cert.preserves_Kernel_KernelIdeal :=
  ⟨IdealRules.named_const.statement Cert.KernelIdeal.κ "inv_count" .f32 0x35E38E39#32 ((589824⁻¹ : ℝ) : EReal) rfl,
   IdealRules.named_const.statement Cert.KernelIdeal.κ "neg_big" .f32 0xFF61B1E6#32 ⊥ rfl⟩
theorem pres2 : Cert.preserves_Kernel2_Kernel2Ideal :=
  ⟨IdealRules.named_const.statement Cert.Kernel2Ideal.κ "inv_ts" .f32 0x41649249#32 (((9395241 / 134217728)⁻¹ : ℝ) : EReal) rfl,
   IdealRules.named_const.statement Cert.Kernel2Ideal.κ "inv_count" .f32 0x37A3D70A#32 ((51200⁻¹ : ℝ) : EReal) rfl⟩

theorem alg : Cert.algebraic_KernelIdeal_ReferenceIdeal := by
  intro m ρ m' ρ' _ hagree
  refine ⟨_, _, _, _, _, _, Cert.KernelIdeal.Value.run_blocks m ρ, ?_⟩
  refine (θ_run Cert.ReferenceIdeal.defs _ _).mono (fun _ h c => ?_) (Cert.ReferenceIdeal.Hand.run (F := Ideal) m' ρ')
  obtain ⟨e0, e1, e2, e3, e4, e5, e6, e7, e8, e9⟩ := hagree c
  obtain ⟨h0, h1, h2, h3, h4, h5, hr⟩ := h c
  rw [e0, e2, e3, e4, e5] at h0 h1
  rw [e1, e2, e3, e4, e5, e6, e7, e8] at h2
  rw [e0, e2, e3, e4, e5, e9] at h3 h4
  rw [e0, e1, e2, e3, e4, e5, e6, e7, e8] at h5
  exact ⟨h0.trans (Cert.KernelIdeal.Hand.final10 m c).symm, h1.trans (Cert.KernelIdeal.Hand.final11 m c).symm,
    h2.trans (Cert.KernelIdeal.Hand.final12 m c).symm, h3.trans (Cert.KernelIdeal.Hand.final13 m c).symm,
    h4.trans (Cert.KernelIdeal.Hand.final14 m c).symm, h5.trans (Cert.KernelIdeal.Hand.final15 m c).symm, hr⟩

theorem alg2 : Cert.algebraic_Kernel2Ideal_Reference2Ideal := by
  intro m ρ m' ρ' _ hagree
  refine ⟨_, Cert.Kernel2Ideal.Value.run_blocks m ρ, ?_⟩
  refine (θ_run Cert.Reference2Ideal.defs _ _).mono (fun _ h c => ⟨(h c).1.trans ?_, (h c).2⟩) (Cert.Reference2Ideal.Value.run (F := Ideal) m' ρ')
  refine (Cert.Reference2Ideal.Hand.res_eq m' c).trans ?_
  rw [Cert.Kernel2Ideal.Hand.final m c, (hagree c).1, (hagree c).2]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  frame_k, frame_ki, frame_r, frame_k2, frame_k2i, frame_r2, pres, alg, pres2, alg2⟩

end Cert.Proof

end
